-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 1024]⟩ ⟨2, ![512, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 512]⟩ ⟨2, ![4096, 512]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 1024]⟩ ⟨2, ![512, 4096]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 512]⟩ ⟨2, ![4096, 512]⟩ 0 4 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![512, 1024]⟩ ⟨2, ![512, 4096]⟩ 1 4 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![1024, 512]⟩ ⟨2, ![4096, 512]⟩ 0 4 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x512 : Shape := ⟨2, ![64, 512]⟩
abbrev S512x1024 : Shape := ⟨2, ![512, 1024]⟩
abbrev S1024x512 : Shape := ⟨2, ![1024, 512]⟩
abbrev S3x4x16x512 : Shape := ⟨4, ![3, 4, 16, 512]⟩
abbrev S3x4x3x16x512 : Shape := ⟨5, ![3, 4, 3, 16, 512]⟩
abbrev S3x4x3 : Shape := ⟨3, ![3, 4, 3]⟩
abbrev S_ : Shape := ⟨0, ![]⟩
abbrev S16x512 : Shape := ⟨2, ![16, 512]⟩
abbrev S16x1024 : Shape := ⟨2, ![16, 1024]⟩
abbrev S1x1x16x512 : Shape := ⟨4, ![1, 1, 16, 512]⟩
abbrev S1x1x1 : Shape := ⟨3, ![1, 1, 1]⟩
abbrev S1x1x1x16x512 : Shape := ⟨5, ![1, 1, 1, 16, 512]⟩

abbrev nBuf : Space → Nat
  | .hbm => 8
  | .vmem => 10
  | .smem => 0
  | _ => 0

abbrev bufTy : (tb : Table) → Fin (tcTables nBuf tb) → BufTy
  | .hbm, ⟨0, _⟩ => ⟨S64x512, .f32⟩
  | .hbm, ⟨1, _⟩ => ⟨S512x1024, .f32⟩
  | .hbm, ⟨2, _⟩ => ⟨S1024x512, .f32⟩
  | .hbm, ⟨3, _⟩ => ⟨S512x1024, .f32⟩
  | .hbm, ⟨4, _⟩ => ⟨S1024x512, .f32⟩
  | .hbm, ⟨5, _⟩ => ⟨S512x1024, .f32⟩
  | .hbm, ⟨6, _⟩ => ⟨S1024x512, .f32⟩
  | .hbm, ⟨7, _⟩ => ⟨S64x512, .f32⟩
  | .local _ .vmem, ⟨0, _⟩ => ⟨S64x512, .f32⟩
  | .local _ .vmem, ⟨1, _⟩ => ⟨S512x1024, .f32⟩
  | .local _ .vmem, ⟨2, _⟩ => ⟨S1024x512, .f32⟩
  | .local _ .vmem, ⟨3, _⟩ => ⟨S512x1024, .f32⟩
  | .local _ .vmem, ⟨4, _⟩ => ⟨S1024x512, .f32⟩
  | .local _ .vmem, ⟨5, _⟩ => ⟨S512x1024, .f32⟩
  | .local _ .vmem, ⟨6, _⟩ => ⟨S1024x512, .f32⟩
  | .local _ .vmem, ⟨7, _⟩ => ⟨S64x512, .f32⟩
  | .local _ .vmem, ⟨8, _⟩ => ⟨S3x4x16x512, .bf16⟩
  | .local _ .vmem, ⟨9, _⟩ => ⟨S3x4x3x16x512, .bf16⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  (ofTc nBuf bufTy 1 80 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_58 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_39 : BitVec 32 := 2#32
  let v57 : BitVec 32 := Scalar.addi v2 c2_i32_39
  let c4_i32_40 : BitVec 32 := 4#32
  let c0_i32_41 : BitVec 32 := 0#32
  let v58 : BitVec 1 := Scalar.cmpi .eq c4_i32_40 c0_i32_41
  let c1_i32_42 : BitVec 32 := 1#32
  let v59 : BitVec 32 := Scalar.select v58 c1_i32_42 c4_i32_40
  let v60 : BitVec 32 := Scalar.remsi v57 v59
  let c0_i32_44 : BitVec 32 := 0#32
  let v62 : BitVec 1 := Scalar.cmpi .slt v60 c0_i32_44
  let c0_i32_45 : BitVec 32 := 0#32
  let v63 : BitVec 1 := Scalar.cmpi .slt v59 c0_i32_45
  let v64 : BitVec 1 := Scalar.xori v62 v63
  let c0_i32_43 : BitVec 32 := 0#32
  let v61 : BitVec 1 := Scalar.cmpi .ne v60 c0_i32_43
  let v65 : BitVec 1 := Scalar.andi v64 v61
  let v66 : BitVec 32 := Scalar.addi v60 v59
  let v67 : BitVec 32 := Scalar.select v65 v66 v60
  let c1_i32_57 : BitVec 32 := 1#32
  let v68 : BitVec 32 := Scalar.muli v67 c1_i32_57
  let v69 : BitVec 32 := Scalar.addi c0_i32_58 v68
  v69.toNat
def k0_dev5 (d0 : Dev nD) : Nat :=
  let c0_i32_82 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_63 : BitVec 32 := 1#32
  let v78 : BitVec 32 := Scalar.addi v2 c1_i32_63
  let c4_i32_64 : BitVec 32 := 4#32
  let c0_i32_65 : BitVec 32 := 0#32
  let v79 : BitVec 1 := Scalar.cmpi .eq c4_i32_64 c0_i32_65
  let c1_i32_66 : BitVec 32 := 1#32
  let v80 : BitVec 32 := Scalar.select v79 c1_i32_66 c4_i32_64
  let v81 : BitVec 32 := Scalar.remsi v78 v80
  let c0_i32_68 : BitVec 32 := 0#32
  let v83 : BitVec 1 := Scalar.cmpi .slt v81 c0_i32_68
  let c0_i32_69 : BitVec 32 := 0#32
  let v84 : BitVec 1 := Scalar.cmpi .slt v80 c0_i32_69
  let v85 : BitVec 1 := Scalar.xori v83 v84
  let c0_i32_67 : BitVec 32 := 0#32
  let v82 : BitVec 1 := Scalar.cmpi .ne v81 c0_i32_67
  let v86 : BitVec 1 := Scalar.andi v85 v82
  let v87 : BitVec 32 := Scalar.addi v81 v80
  let v88 : BitVec 32 := Scalar.select v86 v87 v81
  let c1_i32_81 : BitVec 32 := 1#32
  let v89 : BitVec 32 := Scalar.muli v88 c1_i32_81
  let v90 : BitVec 32 := Scalar.addi c0_i32_82 v89
  v90.toNat
def k0_dev6 (d0 : Dev nD) : Nat :=
  let c0_i32_106 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_87 : BitVec 32 := 3#32
  let v99 : BitVec 32 := Scalar.addi v2 c3_i32_87
  let c4_i32_88 : BitVec 32 := 4#32
  let c0_i32_89 : BitVec 32 := 0#32
  let v100 : BitVec 1 := Scalar.cmpi .eq c4_i32_88 c0_i32_89
  let c1_i32_90 : BitVec 32 := 1#32
  let v101 : BitVec 32 := Scalar.select v100 c1_i32_90 c4_i32_88
  let v102 : BitVec 32 := Scalar.remsi v99 v101
  let c0_i32_92 : BitVec 32 := 0#32
  let v104 : BitVec 1 := Scalar.cmpi .slt v102 c0_i32_92
  let c0_i32_93 : BitVec 32 := 0#32
  let v105 : BitVec 1 := Scalar.cmpi .slt v101 c0_i32_93
  let v106 : BitVec 1 := Scalar.xori v104 v105
  let c0_i32_91 : BitVec 32 := 0#32
  let v103 : BitVec 1 := Scalar.cmpi .ne v102 c0_i32_91
  let v107 : BitVec 1 := Scalar.andi v106 v103
  let v108 : BitVec 32 := Scalar.addi v102 v101
  let v109 : BitVec 32 := Scalar.select v107 v108 v102
  let c1_i32_105 : BitVec 32 := 1#32
  let v110 : BitVec 32 := Scalar.muli v109 c1_i32_105
  let v111 : BitVec 32 := Scalar.addi c0_i32_106 v110
  v111.toNat
def k0_dev7 (d0 : Dev nD) : Nat :=
  let c0_i32_141 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_122 : BitVec 32 := 2#32
  let v134 : BitVec 32 := Scalar.addi v2 c2_i32_122
  let c4_i32_123 : BitVec 32 := 4#32
  let c0_i32_124 : BitVec 32 := 0#32
  let v135 : BitVec 1 := Scalar.cmpi .eq c4_i32_123 c0_i32_124
  let c1_i32_125 : BitVec 32 := 1#32
  let v136 : BitVec 32 := Scalar.select v135 c1_i32_125 c4_i32_123
  let v137 : BitVec 32 := Scalar.remsi v134 v136
  let c0_i32_127 : BitVec 32 := 0#32
  let v139 : BitVec 1 := Scalar.cmpi .slt v137 c0_i32_127
  let c0_i32_128 : BitVec 32 := 0#32
  let v140 : BitVec 1 := Scalar.cmpi .slt v136 c0_i32_128
  let v141 : BitVec 1 := Scalar.xori v139 v140
  let c0_i32_126 : BitVec 32 := 0#32
  let v138 : BitVec 1 := Scalar.cmpi .ne v137 c0_i32_126
  let v142 : BitVec 1 := Scalar.andi v141 v138
  let v143 : BitVec 32 := Scalar.addi v137 v136
  let v144 : BitVec 32 := Scalar.select v142 v143 v137
  let c1_i32_140 : BitVec 32 := 1#32
  let v145 : BitVec 32 := Scalar.muli v144 c1_i32_140
  let v146 : BitVec 32 := Scalar.addi c0_i32_141 v145
  v146.toNat
def k0_dev8 (d0 : Dev nD) : Nat :=
  let c0_i32_165 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_146 : BitVec 32 := 1#32
  let v155 : BitVec 32 := Scalar.addi v2 c1_i32_146
  let c4_i32_147 : BitVec 32 := 4#32
  let c0_i32_148 : BitVec 32 := 0#32
  let v156 : BitVec 1 := Scalar.cmpi .eq c4_i32_147 c0_i32_148
  let c1_i32_149 : BitVec 32 := 1#32
  let v157 : BitVec 32 := Scalar.select v156 c1_i32_149 c4_i32_147
  let v158 : BitVec 32 := Scalar.remsi v155 v157
  let c0_i32_151 : BitVec 32 := 0#32
  let v160 : BitVec 1 := Scalar.cmpi .slt v158 c0_i32_151
  let c0_i32_152 : BitVec 32 := 0#32
  let v161 : BitVec 1 := Scalar.cmpi .slt v157 c0_i32_152
  let v162 : BitVec 1 := Scalar.xori v160 v161
  let c0_i32_150 : BitVec 32 := 0#32
  let v159 : BitVec 1 := Scalar.cmpi .ne v158 c0_i32_150
  let v163 : BitVec 1 := Scalar.andi v162 v159
  let v164 : BitVec 32 := Scalar.addi v158 v157
  let v165 : BitVec 32 := Scalar.select v163 v164 v158
  let c1_i32_164 : BitVec 32 := 1#32
  let v166 : BitVec 32 := Scalar.muli v165 c1_i32_164
  let v167 : BitVec 32 := Scalar.addi c0_i32_165 v166
  v167.toNat
def k0_dev9 (d0 : Dev nD) : Nat :=
  let c0_i32_189 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_170 : BitVec 32 := 3#32
  let v176 : BitVec 32 := Scalar.addi v2 c3_i32_170
  let c4_i32_171 : BitVec 32 := 4#32
  let c0_i32_172 : BitVec 32 := 0#32
  let v177 : BitVec 1 := Scalar.cmpi .eq c4_i32_171 c0_i32_172
  let c1_i32_173 : BitVec 32 := 1#32
  let v178 : BitVec 32 := Scalar.select v177 c1_i32_173 c4_i32_171
  let v179 : BitVec 32 := Scalar.remsi v176 v178
  let c0_i32_175 : BitVec 32 := 0#32
  let v181 : BitVec 1 := Scalar.cmpi .slt v179 c0_i32_175
  let c0_i32_176 : BitVec 32 := 0#32
  let v182 : BitVec 1 := Scalar.cmpi .slt v178 c0_i32_176
  let v183 : BitVec 1 := Scalar.xori v181 v182
  let c0_i32_174 : BitVec 32 := 0#32
  let v180 : BitVec 1 := Scalar.cmpi .ne v179 c0_i32_174
  let v184 : BitVec 1 := Scalar.andi v183 v180
  let v185 : BitVec 32 := Scalar.addi v179 v178
  let v186 : BitVec 32 := Scalar.select v184 v185 v179
  let c1_i32_188 : BitVec 32 := 1#32
  let v187 : BitVec 32 := Scalar.muli v186 c1_i32_188
  let v188 : BitVec 32 := Scalar.addi c0_i32_189 v187
  v188.toNat
def k0_dev10 (d0 : Dev nD) : Nat :=
  let c0_i32_224 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_205 : BitVec 32 := 2#32
  let v211 : BitVec 32 := Scalar.addi v2 c2_i32_205
  let c4_i32_206 : BitVec 32 := 4#32
  let c0_i32_207 : BitVec 32 := 0#32
  let v212 : BitVec 1 := Scalar.cmpi .eq c4_i32_206 c0_i32_207
  let c1_i32_208 : BitVec 32 := 1#32
  let v213 : BitVec 32 := Scalar.select v212 c1_i32_208 c4_i32_206
  let v214 : BitVec 32 := Scalar.remsi v211 v213
  let c0_i32_210 : BitVec 32 := 0#32
  let v216 : BitVec 1 := Scalar.cmpi .slt v214 c0_i32_210
  let c0_i32_211 : BitVec 32 := 0#32
  let v217 : BitVec 1 := Scalar.cmpi .slt v213 c0_i32_211
  let v218 : BitVec 1 := Scalar.xori v216 v217
  let c0_i32_209 : BitVec 32 := 0#32
  let v215 : BitVec 1 := Scalar.cmpi .ne v214 c0_i32_209
  let v219 : BitVec 1 := Scalar.andi v218 v215
  let v220 : BitVec 32 := Scalar.addi v214 v213
  let v221 : BitVec 32 := Scalar.select v219 v220 v214
  let c1_i32_223 : BitVec 32 := 1#32
  let v222 : BitVec 32 := Scalar.muli v221 c1_i32_223
  let v223 : BitVec 32 := Scalar.addi c0_i32_224 v222
  v223.toNat
def k0_dev11 (d0 : Dev nD) : Nat :=
  let c0_i32_248 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_229 : BitVec 32 := 1#32
  let v232 : BitVec 32 := Scalar.addi v2 c1_i32_229
  let c4_i32_230 : BitVec 32 := 4#32
  let c0_i32_231 : BitVec 32 := 0#32
  let v233 : BitVec 1 := Scalar.cmpi .eq c4_i32_230 c0_i32_231
  let c1_i32_232 : BitVec 32 := 1#32
  let v234 : BitVec 32 := Scalar.select v233 c1_i32_232 c4_i32_230
  let v235 : BitVec 32 := Scalar.remsi v232 v234
  let c0_i32_234 : BitVec 32 := 0#32
  let v237 : BitVec 1 := Scalar.cmpi .slt v235 c0_i32_234
  let c0_i32_235 : BitVec 32 := 0#32
  let v238 : BitVec 1 := Scalar.cmpi .slt v234 c0_i32_235
  let v239 : BitVec 1 := Scalar.xori v237 v238
  let c0_i32_233 : BitVec 32 := 0#32
  let v236 : BitVec 1 := Scalar.cmpi .ne v235 c0_i32_233
  let v240 : BitVec 1 := Scalar.andi v239 v236
  let v241 : BitVec 32 := Scalar.addi v235 v234
  let v242 : BitVec 32 := Scalar.select v240 v241 v235
  let c1_i32_247 : BitVec 32 := 1#32
  let v243 : BitVec 32 := Scalar.muli v242 c1_i32_247
  let v244 : BitVec 32 := Scalar.addi c0_i32_248 v243
  v244.toNat
def k0_dev12 (d0 : Dev nD) : Nat :=
  let c0_i32_272 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_253 : BitVec 32 := 3#32
  let v253 : BitVec 32 := Scalar.addi v2 c3_i32_253
  let c4_i32_254 : BitVec 32 := 4#32
  let c0_i32_255 : BitVec 32 := 0#32
  let v254 : BitVec 1 := Scalar.cmpi .eq c4_i32_254 c0_i32_255
  let c1_i32_256 : BitVec 32 := 1#32
  let v255 : BitVec 32 := Scalar.select v254 c1_i32_256 c4_i32_254
  let v256 : BitVec 32 := Scalar.remsi v253 v255
  let c0_i32_258 : BitVec 32 := 0#32
  let v258 : BitVec 1 := Scalar.cmpi .slt v256 c0_i32_258
  let c0_i32_259 : BitVec 32 := 0#32
  let v259 : BitVec 1 := Scalar.cmpi .slt v255 c0_i32_259
  let v260 : BitVec 1 := Scalar.xori v258 v259
  let c0_i32_257 : BitVec 32 := 0#32
  let v257 : BitVec 1 := Scalar.cmpi .ne v256 c0_i32_257
  let v261 : BitVec 1 := Scalar.andi v260 v257
  let v262 : BitVec 32 := Scalar.addi v256 v255
  let v263 : BitVec 32 := Scalar.select v261 v262 v256
  let c1_i32_271 : BitVec 32 := 1#32
  let v264 : BitVec 32 := Scalar.muli v263 c1_i32_271
  let v265 : BitVec 32 := Scalar.addi c0_i32_272 v264
  v265.toNat
def k0_dev13 (d0 : Dev nD) : Nat :=
  let c0_i32_307 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_288 : BitVec 32 := 2#32
  let v288 : BitVec 32 := Scalar.addi v2 c2_i32_288
  let c4_i32_289 : BitVec 32 := 4#32
  let c0_i32_290 : BitVec 32 := 0#32
  let v289 : BitVec 1 := Scalar.cmpi .eq c4_i32_289 c0_i32_290
  let c1_i32_291 : BitVec 32 := 1#32
  let v290 : BitVec 32 := Scalar.select v289 c1_i32_291 c4_i32_289
  let v291 : BitVec 32 := Scalar.remsi v288 v290
  let c0_i32_293 : BitVec 32 := 0#32
  let v293 : BitVec 1 := Scalar.cmpi .slt v291 c0_i32_293
  let c0_i32_294 : BitVec 32 := 0#32
  let v294 : BitVec 1 := Scalar.cmpi .slt v290 c0_i32_294
  let v295 : BitVec 1 := Scalar.xori v293 v294
  let c0_i32_292 : BitVec 32 := 0#32
  let v292 : BitVec 1 := Scalar.cmpi .ne v291 c0_i32_292
  let v296 : BitVec 1 := Scalar.andi v295 v292
  let v297 : BitVec 32 := Scalar.addi v291 v290
  let v298 : BitVec 32 := Scalar.select v296 v297 v291
  let c1_i32_306 : BitVec 32 := 1#32
  let v299 : BitVec 32 := Scalar.muli v298 c1_i32_306
  let v300 : BitVec 32 := Scalar.addi c0_i32_307 v299
  v300.toNat
def k0_dev14 (d0 : Dev nD) : Nat :=
  let c0_i32_331 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_312 : BitVec 32 := 1#32
  let v309 : BitVec 32 := Scalar.addi v2 c1_i32_312
  let c4_i32_313 : BitVec 32 := 4#32
  let c0_i32_314 : BitVec 32 := 0#32
  let v310 : BitVec 1 := Scalar.cmpi .eq c4_i32_313 c0_i32_314
  let c1_i32_315 : BitVec 32 := 1#32
  let v311 : BitVec 32 := Scalar.select v310 c1_i32_315 c4_i32_313
  let v312 : BitVec 32 := Scalar.remsi v309 v311
  let c0_i32_317 : BitVec 32 := 0#32
  let v314 : BitVec 1 := Scalar.cmpi .slt v312 c0_i32_317
  let c0_i32_318 : BitVec 32 := 0#32
  let v315 : BitVec 1 := Scalar.cmpi .slt v311 c0_i32_318
  let v316 : BitVec 1 := Scalar.xori v314 v315
  let c0_i32_316 : BitVec 32 := 0#32
  let v313 : BitVec 1 := Scalar.cmpi .ne v312 c0_i32_316
  let v317 : BitVec 1 := Scalar.andi v316 v313
  let v318 : BitVec 32 := Scalar.addi v312 v311
  let v319 : BitVec 32 := Scalar.select v317 v318 v312
  let c1_i32_330 : BitVec 32 := 1#32
  let v320 : BitVec 32 := Scalar.muli v319 c1_i32_330
  let v321 : BitVec 32 := Scalar.addi c0_i32_331 v320
  v321.toNat
def k0_dev15 (d0 : Dev nD) : Nat :=
  let c0_i32_355 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_336 : BitVec 32 := 3#32
  let v330 : BitVec 32 := Scalar.addi v2 c3_i32_336
  let c4_i32_337 : BitVec 32 := 4#32
  let c0_i32_338 : BitVec 32 := 0#32
  let v331 : BitVec 1 := Scalar.cmpi .eq c4_i32_337 c0_i32_338
  let c1_i32_339 : BitVec 32 := 1#32
  let v332 : BitVec 32 := Scalar.select v331 c1_i32_339 c4_i32_337
  let v333 : BitVec 32 := Scalar.remsi v330 v332
  let c0_i32_341 : BitVec 32 := 0#32
  let v335 : BitVec 1 := Scalar.cmpi .slt v333 c0_i32_341
  let c0_i32_342 : BitVec 32 := 0#32
  let v336 : BitVec 1 := Scalar.cmpi .slt v332 c0_i32_342
  let v337 : BitVec 1 := Scalar.xori v335 v336
  let c0_i32_340 : BitVec 32 := 0#32
  let v334 : BitVec 1 := Scalar.cmpi .ne v333 c0_i32_340
  let v338 : BitVec 1 := Scalar.andi v337 v334
  let v339 : BitVec 32 := Scalar.addi v333 v332
  let v340 : BitVec 32 := Scalar.select v338 v339 v333
  let c1_i32_354 : BitVec 32 := 1#32
  let v341 : BitVec 32 := Scalar.muli v340 c1_i32_354
  let v342 : BitVec 32 := Scalar.addi c0_i32_355 v341
  v342.toNat
def k0_dev16 (d0 : Dev nD) : Nat :=
  let c0_i32_456 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_437 : BitVec 32 := 2#32
  let v399 : BitVec 32 := Scalar.addi v2 c2_i32_437
  let c4_i32_438 : BitVec 32 := 4#32
  let c0_i32_439 : BitVec 32 := 0#32
  let v400 : BitVec 1 := Scalar.cmpi .eq c4_i32_438 c0_i32_439
  let c1_i32_440 : BitVec 32 := 1#32
  let v401 : BitVec 32 := Scalar.select v400 c1_i32_440 c4_i32_438
  let v402 : BitVec 32 := Scalar.remsi v399 v401
  let c0_i32_442 : BitVec 32 := 0#32
  let v404 : BitVec 1 := Scalar.cmpi .slt v402 c0_i32_442
  let c0_i32_443 : BitVec 32 := 0#32
  let v405 : BitVec 1 := Scalar.cmpi .slt v401 c0_i32_443
  let v406 : BitVec 1 := Scalar.xori v404 v405
  let c0_i32_441 : BitVec 32 := 0#32
  let v403 : BitVec 1 := Scalar.cmpi .ne v402 c0_i32_441
  let v407 : BitVec 1 := Scalar.andi v406 v403
  let v408 : BitVec 32 := Scalar.addi v402 v401
  let v409 : BitVec 32 := Scalar.select v407 v408 v402
  let c1_i32_455 : BitVec 32 := 1#32
  let v410 : BitVec 32 := Scalar.muli v409 c1_i32_455
  let v411 : BitVec 32 := Scalar.addi c0_i32_456 v410
  v411.toNat
def k0_dev17 (d0 : Dev nD) : Nat :=
  let c0_i32_480 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_461 : BitVec 32 := 1#32
  let v420 : BitVec 32 := Scalar.addi v2 c1_i32_461
  let c4_i32_462 : BitVec 32 := 4#32
  let c0_i32_463 : BitVec 32 := 0#32
  let v421 : BitVec 1 := Scalar.cmpi .eq c4_i32_462 c0_i32_463
  let c1_i32_464 : BitVec 32 := 1#32
  let v422 : BitVec 32 := Scalar.select v421 c1_i32_464 c4_i32_462
  let v423 : BitVec 32 := Scalar.remsi v420 v422
  let c0_i32_466 : BitVec 32 := 0#32
  let v425 : BitVec 1 := Scalar.cmpi .slt v423 c0_i32_466
  let c0_i32_467 : BitVec 32 := 0#32
  let v426 : BitVec 1 := Scalar.cmpi .slt v422 c0_i32_467
  let v427 : BitVec 1 := Scalar.xori v425 v426
  let c0_i32_465 : BitVec 32 := 0#32
  let v424 : BitVec 1 := Scalar.cmpi .ne v423 c0_i32_465
  let v428 : BitVec 1 := Scalar.andi v427 v424
  let v429 : BitVec 32 := Scalar.addi v423 v422
  let v430 : BitVec 32 := Scalar.select v428 v429 v423
  let c1_i32_479 : BitVec 32 := 1#32
  let v431 : BitVec 32 := Scalar.muli v430 c1_i32_479
  let v432 : BitVec 32 := Scalar.addi c0_i32_480 v431
  v432.toNat
def k0_dev18 (d0 : Dev nD) : Nat :=
  let c0_i32_504 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_485 : BitVec 32 := 3#32
  let v441 : BitVec 32 := Scalar.addi v2 c3_i32_485
  let c4_i32_486 : BitVec 32 := 4#32
  let c0_i32_487 : BitVec 32 := 0#32
  let v442 : BitVec 1 := Scalar.cmpi .eq c4_i32_486 c0_i32_487
  let c1_i32_488 : BitVec 32 := 1#32
  let v443 : BitVec 32 := Scalar.select v442 c1_i32_488 c4_i32_486
  let v444 : BitVec 32 := Scalar.remsi v441 v443
  let c0_i32_490 : BitVec 32 := 0#32
  let v446 : BitVec 1 := Scalar.cmpi .slt v444 c0_i32_490
  let c0_i32_491 : BitVec 32 := 0#32
  let v447 : BitVec 1 := Scalar.cmpi .slt v443 c0_i32_491
  let v448 : BitVec 1 := Scalar.xori v446 v447
  let c0_i32_489 : BitVec 32 := 0#32
  let v445 : BitVec 1 := Scalar.cmpi .ne v444 c0_i32_489
  let v449 : BitVec 1 := Scalar.andi v448 v445
  let v450 : BitVec 32 := Scalar.addi v444 v443
  let v451 : BitVec 32 := Scalar.select v449 v450 v444
  let c1_i32_503 : BitVec 32 := 1#32
  let v452 : BitVec 32 := Scalar.muli v451 c1_i32_503
  let v453 : BitVec 32 := Scalar.addi c0_i32_504 v452
  v453.toNat
def k0_dev19 (d0 : Dev nD) : Nat :=
  let c0_i32_605 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_586 : BitVec 32 := 2#32
  let v510 : BitVec 32 := Scalar.addi v2 c2_i32_586
  let c4_i32_587 : BitVec 32 := 4#32
  let c0_i32_588 : BitVec 32 := 0#32
  let v511 : BitVec 1 := Scalar.cmpi .eq c4_i32_587 c0_i32_588
  let c1_i32_589 : BitVec 32 := 1#32
  let v512 : BitVec 32 := Scalar.select v511 c1_i32_589 c4_i32_587
  let v513 : BitVec 32 := Scalar.remsi v510 v512
  let c0_i32_591 : BitVec 32 := 0#32
  let v515 : BitVec 1 := Scalar.cmpi .slt v513 c0_i32_591
  let c0_i32_592 : BitVec 32 := 0#32
  let v516 : BitVec 1 := Scalar.cmpi .slt v512 c0_i32_592
  let v517 : BitVec 1 := Scalar.xori v515 v516
  let c0_i32_590 : BitVec 32 := 0#32
  let v514 : BitVec 1 := Scalar.cmpi .ne v513 c0_i32_590
  let v518 : BitVec 1 := Scalar.andi v517 v514
  let v519 : BitVec 32 := Scalar.addi v513 v512
  let v520 : BitVec 32 := Scalar.select v518 v519 v513
  let c1_i32_604 : BitVec 32 := 1#32
  let v521 : BitVec 32 := Scalar.muli v520 c1_i32_604
  let v522 : BitVec 32 := Scalar.addi c0_i32_605 v521
  v522.toNat
def k0_dev20 (d0 : Dev nD) : Nat :=
  let c0_i32_629 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_610 : BitVec 32 := 1#32
  let v531 : BitVec 32 := Scalar.addi v2 c1_i32_610
  let c4_i32_611 : BitVec 32 := 4#32
  let c0_i32_612 : BitVec 32 := 0#32
  let v532 : BitVec 1 := Scalar.cmpi .eq c4_i32_611 c0_i32_612
  let c1_i32_613 : BitVec 32 := 1#32
  let v533 : BitVec 32 := Scalar.select v532 c1_i32_613 c4_i32_611
  let v534 : BitVec 32 := Scalar.remsi v531 v533
  let c0_i32_615 : BitVec 32 := 0#32
  let v536 : BitVec 1 := Scalar.cmpi .slt v534 c0_i32_615
  let c0_i32_616 : BitVec 32 := 0#32
  let v537 : BitVec 1 := Scalar.cmpi .slt v533 c0_i32_616
  let v538 : BitVec 1 := Scalar.xori v536 v537
  let c0_i32_614 : BitVec 32 := 0#32
  let v535 : BitVec 1 := Scalar.cmpi .ne v534 c0_i32_614
  let v539 : BitVec 1 := Scalar.andi v538 v535
  let v540 : BitVec 32 := Scalar.addi v534 v533
  let v541 : BitVec 32 := Scalar.select v539 v540 v534
  let c1_i32_628 : BitVec 32 := 1#32
  let v542 : BitVec 32 := Scalar.muli v541 c1_i32_628
  let v543 : BitVec 32 := Scalar.addi c0_i32_629 v542
  v543.toNat
def k0_dev21 (d0 : Dev nD) : Nat :=
  let c0_i32_653 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_634 : BitVec 32 := 3#32
  let v552 : BitVec 32 := Scalar.addi v2 c3_i32_634
  let c4_i32_635 : BitVec 32 := 4#32
  let c0_i32_636 : BitVec 32 := 0#32
  let v553 : BitVec 1 := Scalar.cmpi .eq c4_i32_635 c0_i32_636
  let c1_i32_637 : BitVec 32 := 1#32
  let v554 : BitVec 32 := Scalar.select v553 c1_i32_637 c4_i32_635
  let v555 : BitVec 32 := Scalar.remsi v552 v554
  let c0_i32_639 : BitVec 32 := 0#32
  let v557 : BitVec 1 := Scalar.cmpi .slt v555 c0_i32_639
  let c0_i32_640 : BitVec 32 := 0#32
  let v558 : BitVec 1 := Scalar.cmpi .slt v554 c0_i32_640
  let v559 : BitVec 1 := Scalar.xori v557 v558
  let c0_i32_638 : BitVec 32 := 0#32
  let v556 : BitVec 1 := Scalar.cmpi .ne v555 c0_i32_638
  let v560 : BitVec 1 := Scalar.andi v559 v556
  let v561 : BitVec 32 := Scalar.addi v555 v554
  let v562 : BitVec 32 := Scalar.select v560 v561 v555
  let c1_i32_652 : BitVec 32 := 1#32
  let v563 : BitVec 32 := Scalar.muli v562 c1_i32_652
  let v564 : BitVec 32 := Scalar.addi c0_i32_653 v563
  v564.toNat
def k0_dev22 (d0 : Dev nD) : Nat :=
  let c0_i32_754 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_735 : BitVec 32 := 2#32
  let v621 : BitVec 32 := Scalar.addi v2 c2_i32_735
  let c4_i32_736 : BitVec 32 := 4#32
  let c0_i32_737 : BitVec 32 := 0#32
  let v622 : BitVec 1 := Scalar.cmpi .eq c4_i32_736 c0_i32_737
  let c1_i32_738 : BitVec 32 := 1#32
  let v623 : BitVec 32 := Scalar.select v622 c1_i32_738 c4_i32_736
  let v624 : BitVec 32 := Scalar.remsi v621 v623
  let c0_i32_740 : BitVec 32 := 0#32
  let v626 : BitVec 1 := Scalar.cmpi .slt v624 c0_i32_740
  let c0_i32_741 : BitVec 32 := 0#32
  let v627 : BitVec 1 := Scalar.cmpi .slt v623 c0_i32_741
  let v628 : BitVec 1 := Scalar.xori v626 v627
  let c0_i32_739 : BitVec 32 := 0#32
  let v625 : BitVec 1 := Scalar.cmpi .ne v624 c0_i32_739
  let v629 : BitVec 1 := Scalar.andi v628 v625
  let v630 : BitVec 32 := Scalar.addi v624 v623
  let v631 : BitVec 32 := Scalar.select v629 v630 v624
  let c1_i32_753 : BitVec 32 := 1#32
  let v632 : BitVec 32 := Scalar.muli v631 c1_i32_753
  let v633 : BitVec 32 := Scalar.addi c0_i32_754 v632
  v633.toNat
def k0_dev23 (d0 : Dev nD) : Nat :=
  let c0_i32_778 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_759 : BitVec 32 := 1#32
  let v642 : BitVec 32 := Scalar.addi v2 c1_i32_759
  let c4_i32_760 : BitVec 32 := 4#32
  let c0_i32_761 : BitVec 32 := 0#32
  let v643 : BitVec 1 := Scalar.cmpi .eq c4_i32_760 c0_i32_761
  let c1_i32_762 : BitVec 32 := 1#32
  let v644 : BitVec 32 := Scalar.select v643 c1_i32_762 c4_i32_760
  let v645 : BitVec 32 := Scalar.remsi v642 v644
  let c0_i32_764 : BitVec 32 := 0#32
  let v647 : BitVec 1 := Scalar.cmpi .slt v645 c0_i32_764
  let c0_i32_765 : BitVec 32 := 0#32
  let v648 : BitVec 1 := Scalar.cmpi .slt v644 c0_i32_765
  let v649 : BitVec 1 := Scalar.xori v647 v648
  let c0_i32_763 : BitVec 32 := 0#32
  let v646 : BitVec 1 := Scalar.cmpi .ne v645 c0_i32_763
  let v650 : BitVec 1 := Scalar.andi v649 v646
  let v651 : BitVec 32 := Scalar.addi v645 v644
  let v652 : BitVec 32 := Scalar.select v650 v651 v645
  let c1_i32_777 : BitVec 32 := 1#32
  let v653 : BitVec 32 := Scalar.muli v652 c1_i32_777
  let v654 : BitVec 32 := Scalar.addi c0_i32_778 v653
  v654.toNat
def k0_dev24 (d0 : Dev nD) : Nat :=
  let c0_i32_802 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_783 : BitVec 32 := 3#32
  let v663 : BitVec 32 := Scalar.addi v2 c3_i32_783
  let c4_i32_784 : BitVec 32 := 4#32
  let c0_i32_785 : BitVec 32 := 0#32
  let v664 : BitVec 1 := Scalar.cmpi .eq c4_i32_784 c0_i32_785
  let c1_i32_786 : BitVec 32 := 1#32
  let v665 : BitVec 32 := Scalar.select v664 c1_i32_786 c4_i32_784
  let v666 : BitVec 32 := Scalar.remsi v663 v665
  let c0_i32_788 : BitVec 32 := 0#32
  let v668 : BitVec 1 := Scalar.cmpi .slt v666 c0_i32_788
  let c0_i32_789 : BitVec 32 := 0#32
  let v669 : BitVec 1 := Scalar.cmpi .slt v665 c0_i32_789
  let v670 : BitVec 1 := Scalar.xori v668 v669
  let c0_i32_787 : BitVec 32 := 0#32
  let v667 : BitVec 1 := Scalar.cmpi .ne v666 c0_i32_787
  let v671 : BitVec 1 := Scalar.andi v670 v667
  let v672 : BitVec 32 := Scalar.addi v666 v665
  let v673 : BitVec 32 := Scalar.select v671 v672 v666
  let c1_i32_801 : BitVec 32 := 1#32
  let v674 : BitVec 32 := Scalar.muli v673 c1_i32_801
  let v675 : BitVec 32 := Scalar.addi c0_i32_802 v674
  v675.toNat
def k0_dev25 (d0 : Dev nD) : Nat :=
  let c0_i32_903 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_884 : BitVec 32 := 2#32
  let v732 : BitVec 32 := Scalar.addi v2 c2_i32_884
  let c4_i32_885 : BitVec 32 := 4#32
  let c0_i32_886 : BitVec 32 := 0#32
  let v733 : BitVec 1 := Scalar.cmpi .eq c4_i32_885 c0_i32_886
  let c1_i32_887 : BitVec 32 := 1#32
  let v734 : BitVec 32 := Scalar.select v733 c1_i32_887 c4_i32_885
  let v735 : BitVec 32 := Scalar.remsi v732 v734
  let c0_i32_889 : BitVec 32 := 0#32
  let v737 : BitVec 1 := Scalar.cmpi .slt v735 c0_i32_889
  let c0_i32_890 : BitVec 32 := 0#32
  let v738 : BitVec 1 := Scalar.cmpi .slt v734 c0_i32_890
  let v739 : BitVec 1 := Scalar.xori v737 v738
  let c0_i32_888 : BitVec 32 := 0#32
  let v736 : BitVec 1 := Scalar.cmpi .ne v735 c0_i32_888
  let v740 : BitVec 1 := Scalar.andi v739 v736
  let v741 : BitVec 32 := Scalar.addi v735 v734
  let v742 : BitVec 32 := Scalar.select v740 v741 v735
  let c1_i32_902 : BitVec 32 := 1#32
  let v743 : BitVec 32 := Scalar.muli v742 c1_i32_902
  let v744 : BitVec 32 := Scalar.addi c0_i32_903 v743
  v744.toNat
def k0_dev26 (d0 : Dev nD) : Nat :=
  let c0_i32_927 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_908 : BitVec 32 := 1#32
  let v753 : BitVec 32 := Scalar.addi v2 c1_i32_908
  let c4_i32_909 : BitVec 32 := 4#32
  let c0_i32_910 : BitVec 32 := 0#32
  let v754 : BitVec 1 := Scalar.cmpi .eq c4_i32_909 c0_i32_910
  let c1_i32_911 : BitVec 32 := 1#32
  let v755 : BitVec 32 := Scalar.select v754 c1_i32_911 c4_i32_909
  let v756 : BitVec 32 := Scalar.remsi v753 v755
  let c0_i32_913 : BitVec 32 := 0#32
  let v758 : BitVec 1 := Scalar.cmpi .slt v756 c0_i32_913
  let c0_i32_914 : BitVec 32 := 0#32
  let v759 : BitVec 1 := Scalar.cmpi .slt v755 c0_i32_914
  let v760 : BitVec 1 := Scalar.xori v758 v759
  let c0_i32_912 : BitVec 32 := 0#32
  let v757 : BitVec 1 := Scalar.cmpi .ne v756 c0_i32_912
  let v761 : BitVec 1 := Scalar.andi v760 v757
  let v762 : BitVec 32 := Scalar.addi v756 v755
  let v763 : BitVec 32 := Scalar.select v761 v762 v756
  let c1_i32_926 : BitVec 32 := 1#32
  let v764 : BitVec 32 := Scalar.muli v763 c1_i32_926
  let v765 : BitVec 32 := Scalar.addi c0_i32_927 v764
  v765.toNat
def k0_dev27 (d0 : Dev nD) : Nat :=
  let c0_i32_951 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_932 : BitVec 32 := 3#32
  let v774 : BitVec 32 := Scalar.addi v2 c3_i32_932
  let c4_i32_933 : BitVec 32 := 4#32
  let c0_i32_934 : BitVec 32 := 0#32
  let v775 : BitVec 1 := Scalar.cmpi .eq c4_i32_933 c0_i32_934
  let c1_i32_935 : BitVec 32 := 1#32
  let v776 : BitVec 32 := Scalar.select v775 c1_i32_935 c4_i32_933
  let v777 : BitVec 32 := Scalar.remsi v774 v776
  let c0_i32_937 : BitVec 32 := 0#32
  let v779 : BitVec 1 := Scalar.cmpi .slt v777 c0_i32_937
  let c0_i32_938 : BitVec 32 := 0#32
  let v780 : BitVec 1 := Scalar.cmpi .slt v776 c0_i32_938
  let v781 : BitVec 1 := Scalar.xori v779 v780
  let c0_i32_936 : BitVec 32 := 0#32
  let v778 : BitVec 1 := Scalar.cmpi .ne v777 c0_i32_936
  let v782 : BitVec 1 := Scalar.andi v781 v778
  let v783 : BitVec 32 := Scalar.addi v777 v776
  let v784 : BitVec 32 := Scalar.select v782 v783 v777
  let c1_i32_950 : BitVec 32 := 1#32
  let v785 : BitVec 32 := Scalar.muli v784 c1_i32_950
  let v786 : BitVec 32 := Scalar.addi c0_i32_951 v785
  v786.toNat
def k0_dev28 (d0 : Dev nD) : Nat :=
  let c0_i32_1052 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1033 : BitVec 32 := 2#32
  let v843 : BitVec 32 := Scalar.addi v2 c2_i32_1033
  let c4_i32_1034 : BitVec 32 := 4#32
  let c0_i32_1035 : BitVec 32 := 0#32
  let v844 : BitVec 1 := Scalar.cmpi .eq c4_i32_1034 c0_i32_1035
  let c1_i32_1036 : BitVec 32 := 1#32
  let v845 : BitVec 32 := Scalar.select v844 c1_i32_1036 c4_i32_1034
  let v846 : BitVec 32 := Scalar.remsi v843 v845
  let c0_i32_1038 : BitVec 32 := 0#32
  let v848 : BitVec 1 := Scalar.cmpi .slt v846 c0_i32_1038
  let c0_i32_1039 : BitVec 32 := 0#32
  let v849 : BitVec 1 := Scalar.cmpi .slt v845 c0_i32_1039
  let v850 : BitVec 1 := Scalar.xori v848 v849
  let c0_i32_1037 : BitVec 32 := 0#32
  let v847 : BitVec 1 := Scalar.cmpi .ne v846 c0_i32_1037
  let v851 : BitVec 1 := Scalar.andi v850 v847
  let v852 : BitVec 32 := Scalar.addi v846 v845
  let v853 : BitVec 32 := Scalar.select v851 v852 v846
  let c1_i32_1051 : BitVec 32 := 1#32
  let v854 : BitVec 32 := Scalar.muli v853 c1_i32_1051
  let v855 : BitVec 32 := Scalar.addi c0_i32_1052 v854
  v855.toNat
def k0_dev29 (d0 : Dev nD) : Nat :=
  let c0_i32_1076 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1057 : BitVec 32 := 1#32
  let v864 : BitVec 32 := Scalar.addi v2 c1_i32_1057
  let c4_i32_1058 : BitVec 32 := 4#32
  let c0_i32_1059 : BitVec 32 := 0#32
  let v865 : BitVec 1 := Scalar.cmpi .eq c4_i32_1058 c0_i32_1059
  let c1_i32_1060 : BitVec 32 := 1#32
  let v866 : BitVec 32 := Scalar.select v865 c1_i32_1060 c4_i32_1058
  let v867 : BitVec 32 := Scalar.remsi v864 v866
  let c0_i32_1062 : BitVec 32 := 0#32
  let v869 : BitVec 1 := Scalar.cmpi .slt v867 c0_i32_1062
  let c0_i32_1063 : BitVec 32 := 0#32
  let v870 : BitVec 1 := Scalar.cmpi .slt v866 c0_i32_1063
  let v871 : BitVec 1 := Scalar.xori v869 v870
  let c0_i32_1061 : BitVec 32 := 0#32
  let v868 : BitVec 1 := Scalar.cmpi .ne v867 c0_i32_1061
  let v872 : BitVec 1 := Scalar.andi v871 v868
  let v873 : BitVec 32 := Scalar.addi v867 v866
  let v874 : BitVec 32 := Scalar.select v872 v873 v867
  let c1_i32_1075 : BitVec 32 := 1#32
  let v875 : BitVec 32 := Scalar.muli v874 c1_i32_1075
  let v876 : BitVec 32 := Scalar.addi c0_i32_1076 v875
  v876.toNat
def k0_dev30 (d0 : Dev nD) : Nat :=
  let c0_i32_1100 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1081 : BitVec 32 := 3#32
  let v885 : BitVec 32 := Scalar.addi v2 c3_i32_1081
  let c4_i32_1082 : BitVec 32 := 4#32
  let c0_i32_1083 : BitVec 32 := 0#32
  let v886 : BitVec 1 := Scalar.cmpi .eq c4_i32_1082 c0_i32_1083
  let c1_i32_1084 : BitVec 32 := 1#32
  let v887 : BitVec 32 := Scalar.select v886 c1_i32_1084 c4_i32_1082
  let v888 : BitVec 32 := Scalar.remsi v885 v887
  let c0_i32_1086 : BitVec 32 := 0#32
  let v890 : BitVec 1 := Scalar.cmpi .slt v888 c0_i32_1086
  let c0_i32_1087 : BitVec 32 := 0#32
  let v891 : BitVec 1 := Scalar.cmpi .slt v887 c0_i32_1087
  let v892 : BitVec 1 := Scalar.xori v890 v891
  let c0_i32_1085 : BitVec 32 := 0#32
  let v889 : BitVec 1 := Scalar.cmpi .ne v888 c0_i32_1085
  let v893 : BitVec 1 := Scalar.andi v892 v889
  let v894 : BitVec 32 := Scalar.addi v888 v887
  let v895 : BitVec 32 := Scalar.select v893 v894 v888
  let c1_i32_1099 : BitVec 32 := 1#32
  let v896 : BitVec 32 := Scalar.muli v895 c1_i32_1099
  let v897 : BitVec 32 := Scalar.addi c0_i32_1100 v896
  v897.toNat
def k0_dev31 (d0 : Dev nD) : Nat :=
  let c0_i32_1201 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1182 : BitVec 32 := 2#32
  let v954 : BitVec 32 := Scalar.addi v2 c2_i32_1182
  let c4_i32_1183 : BitVec 32 := 4#32
  let c0_i32_1184 : BitVec 32 := 0#32
  let v955 : BitVec 1 := Scalar.cmpi .eq c4_i32_1183 c0_i32_1184
  let c1_i32_1185 : BitVec 32 := 1#32
  let v956 : BitVec 32 := Scalar.select v955 c1_i32_1185 c4_i32_1183
  let v957 : BitVec 32 := Scalar.remsi v954 v956
  let c0_i32_1187 : BitVec 32 := 0#32
  let v959 : BitVec 1 := Scalar.cmpi .slt v957 c0_i32_1187
  let c0_i32_1188 : BitVec 32 := 0#32
  let v960 : BitVec 1 := Scalar.cmpi .slt v956 c0_i32_1188
  let v961 : BitVec 1 := Scalar.xori v959 v960
  let c0_i32_1186 : BitVec 32 := 0#32
  let v958 : BitVec 1 := Scalar.cmpi .ne v957 c0_i32_1186
  let v962 : BitVec 1 := Scalar.andi v961 v958
  let v963 : BitVec 32 := Scalar.addi v957 v956
  let v964 : BitVec 32 := Scalar.select v962 v963 v957
  let c1_i32_1200 : BitVec 32 := 1#32
  let v965 : BitVec 32 := Scalar.muli v964 c1_i32_1200
  let v966 : BitVec 32 := Scalar.addi c0_i32_1201 v965
  v966.toNat
def k0_dev32 (d0 : Dev nD) : Nat :=
  let c0_i32_1225 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1206 : BitVec 32 := 1#32
  let v975 : BitVec 32 := Scalar.addi v2 c1_i32_1206
  let c4_i32_1207 : BitVec 32 := 4#32
  let c0_i32_1208 : BitVec 32 := 0#32
  let v976 : BitVec 1 := Scalar.cmpi .eq c4_i32_1207 c0_i32_1208
  let c1_i32_1209 : BitVec 32 := 1#32
  let v977 : BitVec 32 := Scalar.select v976 c1_i32_1209 c4_i32_1207
  let v978 : BitVec 32 := Scalar.remsi v975 v977
  let c0_i32_1211 : BitVec 32 := 0#32
  let v980 : BitVec 1 := Scalar.cmpi .slt v978 c0_i32_1211
  let c0_i32_1212 : BitVec 32 := 0#32
  let v981 : BitVec 1 := Scalar.cmpi .slt v977 c0_i32_1212
  let v982 : BitVec 1 := Scalar.xori v980 v981
  let c0_i32_1210 : BitVec 32 := 0#32
  let v979 : BitVec 1 := Scalar.cmpi .ne v978 c0_i32_1210
  let v983 : BitVec 1 := Scalar.andi v982 v979
  let v984 : BitVec 32 := Scalar.addi v978 v977
  let v985 : BitVec 32 := Scalar.select v983 v984 v978
  let c1_i32_1224 : BitVec 32 := 1#32
  let v986 : BitVec 32 := Scalar.muli v985 c1_i32_1224
  let v987 : BitVec 32 := Scalar.addi c0_i32_1225 v986
  v987.toNat
def k0_dev33 (d0 : Dev nD) : Nat :=
  let c0_i32_1249 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1230 : BitVec 32 := 3#32
  let v996 : BitVec 32 := Scalar.addi v2 c3_i32_1230
  let c4_i32_1231 : BitVec 32 := 4#32
  let c0_i32_1232 : BitVec 32 := 0#32
  let v997 : BitVec 1 := Scalar.cmpi .eq c4_i32_1231 c0_i32_1232
  let c1_i32_1233 : BitVec 32 := 1#32
  let v998 : BitVec 32 := Scalar.select v997 c1_i32_1233 c4_i32_1231
  let v999 : BitVec 32 := Scalar.remsi v996 v998
  let c0_i32_1235 : BitVec 32 := 0#32
  let v1001 : BitVec 1 := Scalar.cmpi .slt v999 c0_i32_1235
  let c0_i32_1236 : BitVec 32 := 0#32
  let v1002 : BitVec 1 := Scalar.cmpi .slt v998 c0_i32_1236
  let v1003 : BitVec 1 := Scalar.xori v1001 v1002
  let c0_i32_1234 : BitVec 32 := 0#32
  let v1000 : BitVec 1 := Scalar.cmpi .ne v999 c0_i32_1234
  let v1004 : BitVec 1 := Scalar.andi v1003 v1000
  let v1005 : BitVec 32 := Scalar.addi v999 v998
  let v1006 : BitVec 32 := Scalar.select v1004 v1005 v999
  let c1_i32_1248 : BitVec 32 := 1#32
  let v1007 : BitVec 32 := Scalar.muli v1006 c1_i32_1248
  let v1008 : BitVec 32 := Scalar.addi c0_i32_1249 v1007
  v1008.toNat
def k0_dev34 (d0 : Dev nD) : Nat :=
  let c0_i32_1350 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1331 : BitVec 32 := 2#32
  let v1065 : BitVec 32 := Scalar.addi v2 c2_i32_1331
  let c4_i32_1332 : BitVec 32 := 4#32
  let c0_i32_1333 : BitVec 32 := 0#32
  let v1066 : BitVec 1 := Scalar.cmpi .eq c4_i32_1332 c0_i32_1333
  let c1_i32_1334 : BitVec 32 := 1#32
  let v1067 : BitVec 32 := Scalar.select v1066 c1_i32_1334 c4_i32_1332
  let v1068 : BitVec 32 := Scalar.remsi v1065 v1067
  let c0_i32_1336 : BitVec 32 := 0#32
  let v1070 : BitVec 1 := Scalar.cmpi .slt v1068 c0_i32_1336
  let c0_i32_1337 : BitVec 32 := 0#32
  let v1071 : BitVec 1 := Scalar.cmpi .slt v1067 c0_i32_1337
  let v1072 : BitVec 1 := Scalar.xori v1070 v1071
  let c0_i32_1335 : BitVec 32 := 0#32
  let v1069 : BitVec 1 := Scalar.cmpi .ne v1068 c0_i32_1335
  let v1073 : BitVec 1 := Scalar.andi v1072 v1069
  let v1074 : BitVec 32 := Scalar.addi v1068 v1067
  let v1075 : BitVec 32 := Scalar.select v1073 v1074 v1068
  let c1_i32_1349 : BitVec 32 := 1#32
  let v1076 : BitVec 32 := Scalar.muli v1075 c1_i32_1349
  let v1077 : BitVec 32 := Scalar.addi c0_i32_1350 v1076
  v1077.toNat
def k0_dev35 (d0 : Dev nD) : Nat :=
  let c0_i32_1374 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1355 : BitVec 32 := 1#32
  let v1086 : BitVec 32 := Scalar.addi v2 c1_i32_1355
  let c4_i32_1356 : BitVec 32 := 4#32
  let c0_i32_1357 : BitVec 32 := 0#32
  let v1087 : BitVec 1 := Scalar.cmpi .eq c4_i32_1356 c0_i32_1357
  let c1_i32_1358 : BitVec 32 := 1#32
  let v1088 : BitVec 32 := Scalar.select v1087 c1_i32_1358 c4_i32_1356
  let v1089 : BitVec 32 := Scalar.remsi v1086 v1088
  let c0_i32_1360 : BitVec 32 := 0#32
  let v1091 : BitVec 1 := Scalar.cmpi .slt v1089 c0_i32_1360
  let c0_i32_1361 : BitVec 32 := 0#32
  let v1092 : BitVec 1 := Scalar.cmpi .slt v1088 c0_i32_1361
  let v1093 : BitVec 1 := Scalar.xori v1091 v1092
  let c0_i32_1359 : BitVec 32 := 0#32
  let v1090 : BitVec 1 := Scalar.cmpi .ne v1089 c0_i32_1359
  let v1094 : BitVec 1 := Scalar.andi v1093 v1090
  let v1095 : BitVec 32 := Scalar.addi v1089 v1088
  let v1096 : BitVec 32 := Scalar.select v1094 v1095 v1089
  let c1_i32_1373 : BitVec 32 := 1#32
  let v1097 : BitVec 32 := Scalar.muli v1096 c1_i32_1373
  let v1098 : BitVec 32 := Scalar.addi c0_i32_1374 v1097
  v1098.toNat
def k0_dev36 (d0 : Dev nD) : Nat :=
  let c0_i32_1398 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1379 : BitVec 32 := 3#32
  let v1107 : BitVec 32 := Scalar.addi v2 c3_i32_1379
  let c4_i32_1380 : BitVec 32 := 4#32
  let c0_i32_1381 : BitVec 32 := 0#32
  let v1108 : BitVec 1 := Scalar.cmpi .eq c4_i32_1380 c0_i32_1381
  let c1_i32_1382 : BitVec 32 := 1#32
  let v1109 : BitVec 32 := Scalar.select v1108 c1_i32_1382 c4_i32_1380
  let v1110 : BitVec 32 := Scalar.remsi v1107 v1109
  let c0_i32_1384 : BitVec 32 := 0#32
  let v1112 : BitVec 1 := Scalar.cmpi .slt v1110 c0_i32_1384
  let c0_i32_1385 : BitVec 32 := 0#32
  let v1113 : BitVec 1 := Scalar.cmpi .slt v1109 c0_i32_1385
  let v1114 : BitVec 1 := Scalar.xori v1112 v1113
  let c0_i32_1383 : BitVec 32 := 0#32
  let v1111 : BitVec 1 := Scalar.cmpi .ne v1110 c0_i32_1383
  let v1115 : BitVec 1 := Scalar.andi v1114 v1111
  let v1116 : BitVec 32 := Scalar.addi v1110 v1109
  let v1117 : BitVec 32 := Scalar.select v1115 v1116 v1110
  let c1_i32_1397 : BitVec 32 := 1#32
  let v1118 : BitVec 32 := Scalar.muli v1117 c1_i32_1397
  let v1119 : BitVec 32 := Scalar.addi c0_i32_1398 v1118
  v1119.toNat
def k0_dev37 (d0 : Dev nD) : Nat :=
  let c0_i32_1499 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1480 : BitVec 32 := 2#32
  let v1176 : BitVec 32 := Scalar.addi v2 c2_i32_1480
  let c4_i32_1481 : BitVec 32 := 4#32
  let c0_i32_1482 : BitVec 32 := 0#32
  let v1177 : BitVec 1 := Scalar.cmpi .eq c4_i32_1481 c0_i32_1482
  let c1_i32_1483 : BitVec 32 := 1#32
  let v1178 : BitVec 32 := Scalar.select v1177 c1_i32_1483 c4_i32_1481
  let v1179 : BitVec 32 := Scalar.remsi v1176 v1178
  let c0_i32_1485 : BitVec 32 := 0#32
  let v1181 : BitVec 1 := Scalar.cmpi .slt v1179 c0_i32_1485
  let c0_i32_1486 : BitVec 32 := 0#32
  let v1182 : BitVec 1 := Scalar.cmpi .slt v1178 c0_i32_1486
  let v1183 : BitVec 1 := Scalar.xori v1181 v1182
  let c0_i32_1484 : BitVec 32 := 0#32
  let v1180 : BitVec 1 := Scalar.cmpi .ne v1179 c0_i32_1484
  let v1184 : BitVec 1 := Scalar.andi v1183 v1180
  let v1185 : BitVec 32 := Scalar.addi v1179 v1178
  let v1186 : BitVec 32 := Scalar.select v1184 v1185 v1179
  let c1_i32_1498 : BitVec 32 := 1#32
  let v1187 : BitVec 32 := Scalar.muli v1186 c1_i32_1498
  let v1188 : BitVec 32 := Scalar.addi c0_i32_1499 v1187
  v1188.toNat
def k0_dev38 (d0 : Dev nD) : Nat :=
  let c0_i32_1523 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1504 : BitVec 32 := 1#32
  let v1197 : BitVec 32 := Scalar.addi v2 c1_i32_1504
  let c4_i32_1505 : BitVec 32 := 4#32
  let c0_i32_1506 : BitVec 32 := 0#32
  let v1198 : BitVec 1 := Scalar.cmpi .eq c4_i32_1505 c0_i32_1506
  let c1_i32_1507 : BitVec 32 := 1#32
  let v1199 : BitVec 32 := Scalar.select v1198 c1_i32_1507 c4_i32_1505
  let v1200 : BitVec 32 := Scalar.remsi v1197 v1199
  let c0_i32_1509 : BitVec 32 := 0#32
  let v1202 : BitVec 1 := Scalar.cmpi .slt v1200 c0_i32_1509
  let c0_i32_1510 : BitVec 32 := 0#32
  let v1203 : BitVec 1 := Scalar.cmpi .slt v1199 c0_i32_1510
  let v1204 : BitVec 1 := Scalar.xori v1202 v1203
  let c0_i32_1508 : BitVec 32 := 0#32
  let v1201 : BitVec 1 := Scalar.cmpi .ne v1200 c0_i32_1508
  let v1205 : BitVec 1 := Scalar.andi v1204 v1201
  let v1206 : BitVec 32 := Scalar.addi v1200 v1199
  let v1207 : BitVec 32 := Scalar.select v1205 v1206 v1200
  let c1_i32_1522 : BitVec 32 := 1#32
  let v1208 : BitVec 32 := Scalar.muli v1207 c1_i32_1522
  let v1209 : BitVec 32 := Scalar.addi c0_i32_1523 v1208
  v1209.toNat
def k0_dev39 (d0 : Dev nD) : Nat :=
  let c0_i32_1547 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1528 : BitVec 32 := 3#32
  let v1218 : BitVec 32 := Scalar.addi v2 c3_i32_1528
  let c4_i32_1529 : BitVec 32 := 4#32
  let c0_i32_1530 : BitVec 32 := 0#32
  let v1219 : BitVec 1 := Scalar.cmpi .eq c4_i32_1529 c0_i32_1530
  let c1_i32_1531 : BitVec 32 := 1#32
  let v1220 : BitVec 32 := Scalar.select v1219 c1_i32_1531 c4_i32_1529
  let v1221 : BitVec 32 := Scalar.remsi v1218 v1220
  let c0_i32_1533 : BitVec 32 := 0#32
  let v1223 : BitVec 1 := Scalar.cmpi .slt v1221 c0_i32_1533
  let c0_i32_1534 : BitVec 32 := 0#32
  let v1224 : BitVec 1 := Scalar.cmpi .slt v1220 c0_i32_1534
  let v1225 : BitVec 1 := Scalar.xori v1223 v1224
  let c0_i32_1532 : BitVec 32 := 0#32
  let v1222 : BitVec 1 := Scalar.cmpi .ne v1221 c0_i32_1532
  let v1226 : BitVec 1 := Scalar.andi v1225 v1222
  let v1227 : BitVec 32 := Scalar.addi v1221 v1220
  let v1228 : BitVec 32 := Scalar.select v1226 v1227 v1221
  let c1_i32_1546 : BitVec 32 := 1#32
  let v1229 : BitVec 32 := Scalar.muli v1228 c1_i32_1546
  let v1230 : BitVec 32 := Scalar.addi c0_i32_1547 v1229
  v1230.toNat
abbrev stage0_0 : Fin 1 → Memref sig .tc .vmem S64x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S64x512 : Shape := ⟨2, ![64, 512]⟩
abbrev S512x4096 : Shape := ⟨2, ![512, 4096]⟩
abbrev S4096x512 : Shape := ⟨2, ![4096, 512]⟩
abbrev S64x4096 : Shape := ⟨2, ![64, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S64x512, .f32⟩
  | .hbm, ⟨1, _⟩ => ⟨S512x4096, .f32⟩
  | .hbm, ⟨2, _⟩ => ⟨S4096x512, .f32⟩
  | .hbm, ⟨3, _⟩ => ⟨S512x4096, .f32⟩
  | .hbm, ⟨4, _⟩ => ⟨S4096x512, .f32⟩
  | .hbm, ⟨5, _⟩ => ⟨S512x4096, .f32⟩
  | .hbm, ⟨6, _⟩ => ⟨S4096x512, .f32⟩
  | .hbm, ⟨7, _⟩ => ⟨S64x4096, .f32⟩
  | .hbm, ⟨8, _⟩ => ⟨S_, .f32⟩
  | .hbm, ⟨9, _⟩ => ⟨S64x4096, .f32⟩
  | .hbm, ⟨10, _⟩ => ⟨S64x4096, .f32⟩
  | .hbm, ⟨11, _⟩ => ⟨S64x512, .f32⟩
  | .hbm, ⟨12, _⟩ => ⟨S64x4096, .f32⟩
  | .hbm, ⟨13, _⟩ => ⟨S_, .f32⟩
  | .hbm, ⟨14, _⟩ => ⟨S64x4096, .f32⟩
  | .hbm, ⟨15, _⟩ => ⟨S64x4096, .f32⟩
  | .hbm, ⟨16, _⟩ => ⟨S64x512, .f32⟩
  | .hbm, ⟨17, _⟩ => ⟨S64x4096, .f32⟩
  | .hbm, ⟨18, _⟩ => ⟨S_, .f32⟩
  | .hbm, ⟨19, _⟩ => ⟨S64x4096, .f32⟩
  | .hbm, ⟨20, _⟩ => ⟨S64x4096, .f32⟩
  | .hbm, ⟨21, _⟩ => ⟨S64x512, .f32⟩
  | _, _ => ⟨S64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Program.lean ====
/- The kernel's body written once per kind of block.

The body works on twelve blocks: layer `l` of three, chunk `ch` of four (16 rows each). For a block it computes a
partial product, stores its low-precision copy in the staging buffer and starts three remote copies of it; later it
waits for the three copies that arrive for that block and adds them up. This module states these pieces for
arbitrary `l` and `ch`, and that the kernel's body is their sequence. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Tactic

@[expose] public section

set_option maxRecDepth 16384

noncomputable section

namespace Cert.AllReduce

open Cert.KernelIdeal Cert.KernelIdeal.Gen
open Idealize.ShloMosaic
open Idealize.ShloMosaic.TcCoe
open Idealize.SL.Sem

variable {F : FTy → Type} [FloatOps F]

/-! ## Arrays and their parts -/

abbrev xM : Memref sig .tc .vmem S64x512 .f32 := Memref.whole cc0_stg0_0
abbrev outM : Memref sig .tc .vmem S64x512 .f32 := Memref.whole cc0_stg7_0
abbrev stageM : Memref sig .tc .vmem S3x4x16x512 .bf16 := Memref.whole cc0_scratch0
abbrev commM : Memref sig .tc .vmem S3x4x3x16x512 .bf16 := Memref.whole cc0_scratch1

/-- A layer's first weight matrix. -/
abbrev winM : Fin 3 → Memref sig .tc .vmem S512x1024 .f32
  | 0 => Memref.whole cc0_stg1_0
  | 1 => Memref.whole cc0_stg3_0
  | 2 => Memref.whole cc0_stg5_0

/-- A layer's second weight matrix. -/
abbrev woutM : Fin 3 → Memref sig .tc .vmem S1024x512 .f32
  | 0 => Memref.whole cc0_stg2_0
  | 1 => Memref.whole cc0_stg4_0
  | 2 => Memref.whole cc0_stg6_0

theorem inb_rows (ch : Fin 4) : ∀ a, (![16 * ch.val, 0] : Fin 2 → ℕ) a + S16x512.size a ≤ S64x512.size a := by
  revert ch; decide

/-- The 16 rows of a chunk. -/
abbrev rowsR (ch : Fin 4) : Rect S64x512 := Rect.unit (s := S64x512) ![16 * ch.val, 0] S16x512.size (inb_rows ch)

theorem inb_stage (l : Fin 3) (ch : Fin 4) :
    ∀ a, (![l.val, ch.val, 0, 0] : Fin 4 → ℕ) a + S1x1x16x512.size a ≤ S3x4x16x512.size a := by
  revert l ch; decide

/-- A block's place in the staging buffer. -/
abbrev stageR (l : Fin 3) (ch : Fin 4) : Rect S3x4x16x512 :=
  Rect.unit (s := S3x4x16x512) ![l.val, ch.val, 0, 0] S1x1x16x512.size (inb_stage l ch)

theorem inb_comm (l : Fin 3) (ch : Fin 4) (k : Fin 3) :
    ∀ a, (![l.val, ch.val, k.val, 0, 0] : Fin 5 → ℕ) a + S1x1x1x16x512.size a ≤ S3x4x3x16x512.size a := by
  revert l ch k; decide

/-- The place where the copy of a block sent by the device `k + 1` before lands. -/
abbrev commR (l : Fin 3) (ch : Fin 4) (k : Fin 3) : Rect S3x4x3x16x512 :=
  Rect.unit (s := S3x4x3x16x512) ![l.val, ch.val, k.val, 0, 0] S1x1x1x16x512.size (inb_comm l ch k)

theorem inb_sem (l : Fin 3) (ch : Fin 4) (k : Fin 3) :
    ∀ a, (![l.val, ch.val, k.val] : Fin 3 → ℕ) a + S1x1x1.size a ≤ S3x4x3.size a := by
  revert l ch k; decide

abbrev semR (l : Fin 3) (ch : Fin 4) (k : Fin 3) : Rect S3x4x3 :=
  Rect.unit (s := S3x4x3) ![l.val, ch.val, k.val] S1x1x1.size (inb_sem l ch k)

theorem packed_stage (l : Fin 3) (ch : Fin 4) : (stageR l ch).PackedRows (EltTy.packing .bf16) := by
  revert l ch; decide
theorem words_stage (l : Fin 3) (ch : Fin 4) : (stageR l ch).WholeWords (EltTy.packing .bf16) := by
  revert l ch; decide
theorem words_comm (l : Fin 3) (ch : Fin 4) (k : Fin 3) : (commR l ch k).WholeWords (EltTy.packing .bf16) := by
  revert l ch k; decide

/-- The staging place and the landing place as the copies see them. -/
abbrev stageV (l : Fin 3) (ch : Fin 4) : Memref sig .tc .vmem S16x512 .bf16 :=
  (stageM.slice (stageR l ch) (fun _ => rfl)).squeeze S16x512 squeezes_S1x1x16x512_S16x512
abbrev commV (l : Fin 3) (ch : Fin 4) (k : Fin 3) : Memref sig .tc .vmem S16x512 .bf16 :=
  (commM.slice (commR l ch k) (fun _ => rfl)).squeeze S16x512 squeezes_S1x1x1x16x512_S16x512

/-- The semaphores of a copy, at its sender and at its receiver. -/
abbrev sendS (l : Fin 3) (ch : Fin 4) (k : Fin 3) : DmaSem sig :=
  ((cc0_scratch2.slice (semR l ch k)).squeeze S_ squeezes_S1x1x1_S_).sem
abbrev recvS (l : Fin 3) (ch : Fin 4) (k : Fin 3) : DmaSem sig :=
  ((cc0_scratch3.slice (semR l ch k)).squeeze S_ squeezes_S1x1x1_S_).sem
abbrev barS : Sem sig := (SemArray.scalar (sig.barrier 0 rfl) : Sems sig S_).sem

/-! ## The arithmetic -/

/-- One layer on the rows `x`: the first product, its negative entries replaced by zero, the second product. -/
def fwd (x : FVec F S16x512 .f32) (wi : FVec F S512x1024 .f32) (wo : FVec F S1024x512 .f32) : FVec F S16x512 .f32 :=
  matmul dot_S16x1024_S1024x512_S16x512_1_0_0_1_n_n none
    (maximumf
      (matmul dot_S16x512_S512x1024_S16x1024_1_0_0_1_n_n none x
        (shapeCast S512x1024 wi shapeCasts_S512x1024_S512x1024) (constant S16x1024 .f32 0x00000000#32))
      (broadcast S16x1024 (Scalar.ofBits .f32 0x00000000#32)))
    (shapeCast S1024x512 wo shapeCasts_S1024x512_S1024x512) (constant S16x512 .f32 0x00000000#32)

/-- The low-precision copy of a partial product, shaped as a block of the staging buffer. -/
def wire (p : FVec F S16x512 .f32) : FVec F S1x1x16x512 .bf16 :=
  shapeCast S1x1x16x512 (truncf .bf16 p bitsLt_bf16_f32) shapeCasts_S16x512_S1x1x16x512

/-- A landed copy back at the working precision. -/
def wide (w : FVec F S1x1x1x16x512 .bf16) : FVec F S16x512 .f32 :=
  extf .f32 (shapeCast S16x512 w shapeCasts_S1x1x1x16x512_S16x512) bitsLt_bf16_f32

/-- A partial product and the three landed copies, added from the left. -/
def red (p : FVec F S16x512 .f32) (a b d : FVec F S1x1x1x16x512 .bf16) : FVec F S16x512 .f32 :=
  addf (addf (addf p (wide a)) (wide b)) (wide d)

/-! ## The pieces of the body -/

abbrev Body (F : FTy → Type) (α : Type) : Type _ := Prog (TpuEff nD τ sig (Elt F) Λ₀ .tc) α

/-- Start the copy of a staged block into place `k` of device `n`. -/
def copyTo (l : Fin 3) (ch : Fin 4) (k : Fin 3) (n : Dev nD) : Body F PUnit :=
  Prog.lift (.enqueueDma (stageV l ch) (.remote (Dev.tc n) (commV l ch k) (.dma (sendS l ch k))) (.dma (recvS l ch k))
    (((Memref.isWhole_whole cc0_scratch0).wordExact_slice rfl _ (words_stage l ch)).reshape _ _)
    (((Memref.isWhole_whole cc0_scratch1).wordExact_slice rfl _ (words_comm l ch k)).reshape _ _)
    ⟨⟨rfl, Or.inl rfl⟩, trivial⟩)

/-- Stage a partial product and start its three copies, to the devices `n 1`, `n 0`, `n 2`. -/
def sendBlock (l : Fin 3) (ch : Fin 4) (n : Fin 3 → Dev nD) (p : FVec F S16x512 .f32) : Body F PUnit := do
  let _ : Vec F S1x1x16x512 .bf16 ← Prog.lift (.load stageM (stageR l ch).toLoadRect (View.loadsAt_vmem h_S1x1x16x512))
  Prog.lift (.store stageM (stageR l ch) (wire p) Finset.univ (View.stores_vmem h_S1x1x16x512
    ((Memref.isWhole_whole cc0_scratch0).storeExact_slice rfl _ (packed_stage l ch)) (fun _ => rfl)) (.inl rfl))
  copyTo l ch 1 (n 1)
  copyTo l ch 0 (n 0)
  copyTo l ch 2 (n 2)

/-- Layer `l` on the rows `x` of chunk `ch`, and the copies of the result on their way. -/
def layer (l : Fin 3) (ch : Fin 4) (n : Fin 3 → Dev nD) (x : FVec F S16x512 .f32) : Body F (FVec F S16x512 .f32) := do
  let wi : Vec F S512x1024 .f32 ← Prog.lift (.load (winM l)
    (Rect.unit (s := S512x1024) ![0, 0] S512x1024.size inb_S512x1024_S512x1024_0_0).toLoadRect (View.loadsAt_vmem h_S512x1024))
  let wo : Vec F S1024x512 .f32 ← Prog.lift (.load (woutM l)
    (Rect.unit (s := S1024x512) ![0, 0] S1024x512.size inb_S1024x512_S1024x512_0_0).toLoadRect (View.loadsAt_vmem h_S1024x512))
  sendBlock l ch n (fwd x wi wo)
  pure (fwd x wi wo)

/-- The first layer, on the chunk's rows of the input. -/
def first (ch : Fin 4) (n : Fin 3 → Dev nD) : Body F (FVec F S16x512 .f32) := do
  let x : Vec F S16x512 .f32 ← Prog.lift (.load xM (rowsR ch).toLoadRect (View.loadsAt_vmem h_S16x512))
  layer 0 ch n (shapeCast S16x512 x shapeCasts_S16x512_S16x512)

/-- Wait for the copy of a block into place `k`. -/
def await (l : Fin 3) (ch : Fin 4) (k : Fin 3) : Body F PUnit :=
  Prog.lift (.waitDma2 (recvS l ch k) (stageV l ch) (commV l ch k)
    (((Memref.isWhole_whole cc0_scratch0).wordExact_slice rfl _ (words_stage l ch)).reshape _ _)
    (((Memref.isWhole_whole cc0_scratch1).wordExact_slice rfl _ (words_comm l ch k)).reshape _ _))

/-- Read a landed copy. -/
def landing (l : Fin 3) (ch : Fin 4) (k : Fin 3) : Body F (Vec F S1x1x1x16x512 .bf16) :=
  Prog.lift (.load commM (commR l ch k).toLoadRect (View.loadsAt_vmem h_S1x1x1x16x512))

/-- Wait for a block's three copies and add them to the device's own partial product. -/
def gather (l : Fin 3) (ch : Fin 4) (p : FVec F S16x512 .f32) : Body F (FVec F S16x512 .f32) := do
  await l ch 0
  await l ch 1
  await l ch 2
  let a ← landing l ch 0
  let b ← landing l ch 1
  let d ← landing l ch 2
  pure (red p a b d)

/-- Write a chunk of the result. -/
def putOut (ch : Fin 4) (r : FVec F S16x512 .f32) : Body F PUnit := do
  let _ : Vec F S16x512 .f32 ← Prog.lift (.load outM (rowsR ch).toLoadRect (View.loadsAt_vmem h_S16x512))
  Prog.lift (.store outM (rowsR ch) r Finset.univ (View.stores_vmem_bits_univ h_S16x512 rfl) (.inl rfl))

/-- Wait until a copy has left. -/
def settle (l : Fin 3) (ch : Fin 4) (k : Fin 3) : Body F PUnit :=
  Prog.lift (.waitDma2 (sendS l ch k) (commV l ch k) (stageV l ch)
    (((Memref.isWhole_whole cc0_scratch1).wordExact_slice rfl _ (words_comm l ch k)).reshape _ _)
    (((Memref.isWhole_whole cc0_scratch0).wordExact_slice rfl _ (words_stage l ch)).reshape _ _))

/-- Wait until a block's three copies have left. -/
def settleBlock (l : Fin 3) (ch : Fin 4) : Body F PUnit := do
  settle l ch 1
  settle l ch 0
  settle l ch 2

/-- Tell the three other devices that this one has entered, and wait for their word. -/
def meet (n : Fin 3 → Dev nD) : Body F PUnit := do
  semSignalWord (n 0) barS 1#32
  semSignalWord (n 1) barS 1#32
  semSignalWord (n 2) barS 1#32
  semWaitWord barS 3#32

/-- The device addressed by each copy, as the kernel computes it: block `(l, ch)`, place `k`, on device `d`. -/
def target (d : Dev nD) : Fin 3 → Fin 4 → Fin 3 → Dev nD
  | 0, 0 => ![⟨k0_dev5 d, k0_dev5_lt d⟩, ⟨k0_dev4 d, k0_dev4_lt d⟩, ⟨k0_dev6 d, k0_dev6_lt d⟩]
  | 0, 1 => ![⟨k0_dev8 d, k0_dev8_lt d⟩, ⟨k0_dev7 d, k0_dev7_lt d⟩, ⟨k0_dev9 d, k0_dev9_lt d⟩]
  | 0, 2 => ![⟨k0_dev11 d, k0_dev11_lt d⟩, ⟨k0_dev10 d, k0_dev10_lt d⟩, ⟨k0_dev12 d, k0_dev12_lt d⟩]
  | 0, 3 => ![⟨k0_dev14 d, k0_dev14_lt d⟩, ⟨k0_dev13 d, k0_dev13_lt d⟩, ⟨k0_dev15 d, k0_dev15_lt d⟩]
  | 1, 0 => ![⟨k0_dev17 d, k0_dev17_lt d⟩, ⟨k0_dev16 d, k0_dev16_lt d⟩, ⟨k0_dev18 d, k0_dev18_lt d⟩]
  | 1, 1 => ![⟨k0_dev20 d, k0_dev20_lt d⟩, ⟨k0_dev19 d, k0_dev19_lt d⟩, ⟨k0_dev21 d, k0_dev21_lt d⟩]
  | 1, 2 => ![⟨k0_dev23 d, k0_dev23_lt d⟩, ⟨k0_dev22 d, k0_dev22_lt d⟩, ⟨k0_dev24 d, k0_dev24_lt d⟩]
  | 1, 3 => ![⟨k0_dev26 d, k0_dev26_lt d⟩, ⟨k0_dev25 d, k0_dev25_lt d⟩, ⟨k0_dev27 d, k0_dev27_lt d⟩]
  | 2, 0 => ![⟨k0_dev29 d, k0_dev29_lt d⟩, ⟨k0_dev28 d, k0_dev28_lt d⟩, ⟨k0_dev30 d, k0_dev30_lt d⟩]
  | 2, 1 => ![⟨k0_dev32 d, k0_dev32_lt d⟩, ⟨k0_dev31 d, k0_dev31_lt d⟩, ⟨k0_dev33 d, k0_dev33_lt d⟩]
  | 2, 2 => ![⟨k0_dev35 d, k0_dev35_lt d⟩, ⟨k0_dev34 d, k0_dev34_lt d⟩, ⟨k0_dev36 d, k0_dev36_lt d⟩]
  | 2, 3 => ![⟨k0_dev38 d, k0_dev38_lt d⟩, ⟨k0_dev37 d, k0_dev37_lt d⟩, ⟨k0_dev39 d, k0_dev39_lt d⟩]

/-- The devices signalled at the start. -/
def greeted (d : Dev nD) : Fin 3 → Dev nD :=
  ![⟨k0_dev1 d, k0_dev1_lt d⟩, ⟨k0_dev2 d, k0_dev2_lt d⟩, ⟨k0_dev3 d, k0_dev3_lt d⟩]

/-- A block of a later layer: gather the layer before, go through the layer. -/
def middle (d : Dev nD) (l l' : Fin 3) (ch : Fin 4) (p : FVec F S16x512 .f32) : Body F (FVec F S16x512 .f32) := do
  let r ← gather l ch p
  layer l' ch (target d l' ch) r

/-- A chunk of the result: gather the last layer, write. -/
def last (ch : Fin 4) (p : FVec F S16x512 .f32) : Body F PUnit := do
  let r ← gather 2 ch p
  putOut ch r

/-- Wait until all copies have left. -/
def settleAll : List (Fin 3 × Fin 4) → Body F PUnit
  | [] => pure ⟨⟩
  | b :: bs => do
    settleBlock b.1 b.2
    settleAll bs

/-- All blocks in the order in which their copies start. -/
abbrev blocks : List (Fin 3 × Fin 4) :=
  [(0, 0), (0, 1), (0, 2), (0, 3), (1, 0), (1, 1), (1, 2), (1, 3), (2, 0), (2, 1), (2, 2), (2, 3)]

/-- The whole body. -/
def program : Body F PUnit := do
  let d : Dev nD ← Prog.lift .deviceId
  meet (greeted d)
  let p₀ ← first 0 (target d 0 0)
  let p₁ ← first 1 (target d 0 1)
  let p₂ ← first 2 (target d 0 2)
  let p₃ ← first 3 (target d 0 3)
  let q₀ ← middle d 0 1 0 p₀
  let q₁ ← middle d 0 1 1 p₁
  let q₂ ← middle d 0 1 2 p₂
  let q₃ ← middle d 0 1 3 p₃
  let r₀ ← middle d 1 2 0 q₀
  let r₁ ← middle d 1 2 1 q₁
  let r₂ ← middle d 1 2 2 q₂
  let r₃ ← middle d 1 2 3 q₃
  last 0 r₀
  last 1 r₁
  last 2 r₂
  last 3 r₃
  settleAll blocks

/-- The kernel's body is that sequence of pieces. -/
theorem body_eq :
    cc0_body (F := F) xM (Memref.isWhole_whole _) (winM 0) (Memref.isWhole_whole _) (woutM 0) (Memref.isWhole_whole _)
      (winM 1) (Memref.isWhole_whole _) (woutM 1) (Memref.isWhole_whole _) (winM 2) (Memref.isWhole_whole _)
      (woutM 2) (Memref.isWhole_whole _) outM (Memref.isWhole_whole _) stageM (Memref.isWhole_whole _)
      commM (Memref.isWhole_whole _) cc0_scratch2 cc0_scratch3
      = program := by
  chain_rfl

end Cert.AllReduce
-- ==== Proof.Schedule.lean ====
/- The exchange as a schedule of duties.

Each device has a barrier counter, which the three others raise by one at the start, and for every block and every
place two transfer counters: one raised when the copy has left, one raised when the copy from the other device has
arrived. This module gives the devices their neighbours, the counters their numbers, the places their contents, and
says which duty raises which counter by how much and what it hands over. -/
module

public import proofs.«01_k».proof.Proof.Program
public import Idealize.ShloMosaic.Lib.Rounds
public import Idealize.ShloMosaic.Lib.Memref
public import Idealize.ShloMosaic.Lib.MemrefSat

@[expose] public section

set_option maxRecDepth 16384

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU : Type := UR sig nD τ × URounds (GSem nD τ sig) (Fin 3)

local notation "𝕄" => MT nD τ sig Unit (Elt F) ℕ UU ℕ

abbrev EP : Emb (UR sig nD τ) (MT nD τ sig Unit (Elt F) ℕ UU ℕ) := embL
abbrev ER : Emb (URounds (GSem nD τ sig) (Fin 3)) (MT nD τ sig Unit (Elt F) ℕ UU ℕ) := embR

/-! ## Neighbours -/

/-- The device `k + 1` places further on. -/
def peer (k : Fin 3) : Dev nD ≃ Dev nD where
  toFun c := ⟨(c.val + (k.val + 1)) % 4, Nat.mod_lt _ (by decide)⟩
  invFun c := ⟨(c.val + (3 - k.val)) % 4, Nat.mod_lt _ (by decide)⟩
  left_inv c := by revert c k; decide
  right_inv c := by revert c k; decide

/-- Going back `k + 1` places is going on `3 - k`. -/
theorem peer_symm (k : Fin 3) (c : Dev nD) : (peer k).symm c = peer k.rev c := by revert k c; decide

theorem greeted_eq (c : Dev nD) (k : Fin 3) : greeted c k = peer k c := by revert c k; decide +kernel

theorem target_eq (c : Dev nD) (l : Fin 3) (ch : Fin 4) (k : Fin 3) : target c l ch k = peer k c := by
  revert c l ch k; decide +kernel

/-! ## Counters -/

/-- A block: layer and chunk. -/
abbrev Block : Type := Fin 3 × Fin 4
/-- A copy of a block: the block and the place it goes to. -/
abbrev Slot : Type := Block × Fin 3
/-- A device's counters: the barrier, one per copy sent, one per copy received. -/
abbrev Ctr : Type := Unit ⊕ (Slot ⊕ Slot)

instance ctrDecidableEq : DecidableEq Ctr := inferInstance

abbrev bar : Ctr := .inl ()
abbrev snd (s : Slot) : Ctr := .inr (.inl s)
abbrev rcv (s : Slot) : Ctr := .inr (.inr s)

abbrev semOf : Ctr → SemLoc sig
  | .inl _ => .reg barS
  | .inr (.inl s) => .dma (sendS s.1.1 s.1.2 s.2)
  | .inr (.inr s) => .dma (recvS s.1.1 s.1.2 s.2)

abbrev ctr (c : Dev nD) (j : Ctr) : GSem nD τ sig := ((c : Thread nD τ), semOf j)

/-- The copy a number belongs to. -/
def slotAt (n : ℕ) : Slot :=
  ((⟨n / 12 % 3, Nat.mod_lt _ (by decide)⟩, ⟨n / 3 % 4, Nat.mod_lt _ (by decide)⟩), ⟨n % 3, Nat.mod_lt _ (by decide)⟩)

/-- Which of a device's counters a semaphore is. -/
def ctrOf : SemLoc sig → Option Ctr
  | .reg s => if s = barS then some bar else none
  | .dma q => if q.val < 8 then none else if q.val < 44 then some (snd (slotAt (q.val - 8))) else some (rcv (slotAt (q.val - 44)))

theorem send_number : ∀ l ch k, 8 ≤ (sendS l ch k).val ∧ (sendS l ch k).val < 44 ∧ slotAt ((sendS l ch k).val - 8) = ((l, ch), k) := by
  decide +kernel
theorem recv_number : ∀ l ch k, 44 ≤ (recvS l ch k).val ∧ slotAt ((recvS l ch k).val - 44) = ((l, ch), k) := by
  decide +kernel

theorem ctrOf_semOf (j : Ctr) : ctrOf (semOf j) = some j := by
  rcases j with ⟨⟩ | ⟨⟨l, ch⟩, k⟩ | ⟨⟨l, ch⟩, k⟩
  · show (if barS = barS then some bar else none) = some bar
    rw [if_pos rfl]
  · obtain ⟨h1, h2, h3⟩ := send_number l ch k
    show (if (sendS l ch k).val < 8 then none else if (sendS l ch k).val < 44 then some (snd (slotAt ((sendS l ch k).val - 8))) else _) = _
    rw [if_neg (by omega), if_pos h2, h3]
  · obtain ⟨h1, h3⟩ := recv_number l ch k
    show (if (recvS l ch k).val < 8 then none else if (recvS l ch k).val < 44 then _ else some (rcv (slotAt ((recvS l ch k).val - 44)))) = _
    rw [if_neg (by omega), if_neg (by omega), h3]

theorem semOf_injective : Function.Injective semOf := fun i j h =>
  Option.some.inj ((ctrOf_semOf i).symm.trans ((congrArg ctrOf h).trans (ctrOf_semOf j)))

/-- What one copy raises a counter by. -/
def N : ℕ := (commV 0 0 0).view.dmaCredit

theorem N_pos : 0 < N := View.dmaCredit_pos _ (by decide)

/-- What one duty raises a counter by. -/
def unit : Ctr → ℕ
  | .inl _ => 1
  | .inr _ => N

/-! ## Contents -/

/-- The arguments on every device: the input, and the two weight matrices of every layer. -/
structure Args (F : FTy → Type) where
  x : Dev nD → FVec F S64x512 .f32
  wi : Dev nD → Fin 3 → FVec F S512x1024 .f32
  wo : Dev nD → Fin 3 → FVec F S1024x512 .f32

/-- The rows of a chunk of the input. -/
def rows (ch : Fin 4) (x : FVec F S64x512 .f32) : FVec F S16x512 .f32 :=
  shapeCast S16x512 (xM.view.readAt (Elt F) (rowsR ch).toLoadRect x) shapeCasts_S16x512_S16x512

/-- The copy that travels. -/
def low (p : FVec F S16x512 .f32) : FVec F S16x512 .bf16 := truncf .bf16 p bitsLt_bf16_f32
def high (p : FVec F S16x512 .bf16) : FVec F S16x512 .f32 := extf .f32 p bitsLt_bf16_f32

/-- A device's partial product and the copies of the three others', nearest before it first. -/
def total (p : Dev nD → FVec F S16x512 .f32) (c : Dev nD) : FVec F S16x512 .f32 :=
  addf (addf (addf (p c) (high (low (p ((peer 0).symm c))))) (high (low (p ((peer 1).symm c))))) (high (low (p ((peer 2).symm c))))

variable (A : Args F)

/-- The partial product of block `(l, ch)` on each device. -/
def part (ch : Fin 4) : Fin 3 → Dev nD → FVec F S16x512 .f32
  | 0 => fun c => fwd (rows ch (A.x c)) (A.wi c 0) (A.wo c 0)
  | 1 => fun c => fwd (total (fun c => fwd (rows ch (A.x c)) (A.wi c 0) (A.wo c 0)) c) (A.wi c 1) (A.wo c 1)
  | 2 => fun c => fwd (total (fun c => fwd (total (fun c => fwd (rows ch (A.x c)) (A.wi c 0) (A.wo c 0)) c) (A.wi c 1) (A.wo c 1)) c) (A.wi c 2) (A.wo c 2)

/-! ## What a place holds -/

/-- A place held with any contents. -/
def hole {s : Shape} {e : EltTy} (c : Dev nD) (M : Memref sig .tc .vmem s e) : sProp 𝕄 :=
  iprop(∃ f : Buf (Elt F) (M.view.loc (c : Thread nD τ)), (M.view.loc (c : Thread nD τ)) ↦[M.view.set]{fullShare} f)

instance hole_storable {s : Shape} {e : EltTy} (c : Dev nD) (M : Memref sig .tc .vmem s e) :
    BI.Storable (upEmb : UEmb _ 𝕄) (hole (F := F) c M) := by unfold hole; infer_instance

abbrev stageOf (b : Block) : Memref sig .tc .vmem S16x512 .bf16 := stageV b.1 b.2
abbrev placeOf (s : Slot) : Memref sig .tc .vmem S16x512 .bf16 := commV s.1.1 s.1.2 s.2

/-- The three parts of a place that its three copies read. -/
def third : Fin 3 → PosShare TreeShare
  | 0 => fullShare.left
  | 1 => fullShare.right.left
  | 2 => fullShare.right.right

/-! ## The schedule -/

/-- What the signal to `c` from the device `k + 1` before it hands over: the places there that `c` will fill. -/
def barPay (c : Dev nD) (k : Fin 3) : sProp 𝕄 :=
  bigSep Finset.univ fun b : Block => hole (peer k.rev c) (placeOf (b, k.rev))

/-- What a copy gives back when it has left: the part of the staged block it read. -/
def sendPay (c : Dev nD) (s : Slot) : sProp 𝕄 :=
  owns (c : Thread nD τ) (stageOf s.1) (third s.2) (low (part A s.1.2 s.1.1 c))

/-- What a copy brings: the place, holding the sender's block. -/
def recvPay (c : Dev nD) (s : Slot) : sProp 𝕄 :=
  owns (c : Thread nD τ) (placeOf s) fullShare (low (part A s.1.2 s.1.1 ((peer s.2).symm c)))

def payOf (c : Dev nD) (k : Fin 3) : Option Ctr → sProp 𝕄
  | some (.inl _) => barPay c k
  | some (.inr (.inl s)) => sendPay A c s
  | some (.inr (.inr s)) => recvPay A c s
  | none => iprop(emp)

def dutiesOf : Option Ctr → Finset (Fin 3)
  | some (.inl _) => Finset.univ
  | some (.inr _) => {0}
  | none => ∅

def unitOf : Option Ctr → ℕ
  | some j => unit j
  | none => 1

theorem unitOf_pos (o : Option Ctr) : 0 < unitOf o := by
  rcases o with _ | ⟨_⟩ | _
  · exact Nat.one_pos
  · exact Nat.one_pos
  · exact N_pos

instance payOf_storable (c : Dev nD) (k : Fin 3) (o : Option Ctr) : BI.Storable (upEmb : UEmb _ 𝕄) (payOf A c k o) := by
  rcases o with _ | ⟨_⟩ | s | s
  · unfold payOf; infer_instance
  · unfold payOf barPay; infer_instance
  · unfold payOf sendPay; infer_instance
  · unfold payOf recvPay; infer_instance

/-- Each counter is raised in one round: a barrier by three duties, a transfer counter by one. -/
def plan : Schedule (GSem nD τ sig) (Fin 3) 𝕄 where
  duties g r := if r = 0 ∧ g.1.2 = .tc then dutiesOf (ctrOf g.2) else ∅
  unitless _ := False
  amount g _ _ := unitOf (ctrOf g.2)
  payload g _ k := payOf A g.1.1 k (ctrOf g.2)
  amount_pos g _ _ _ := unitOf_pos _

instance plan_storable (g : GSem nD τ sig) (r : ℕ) (d : Fin 3) : BI.Storable (upEmb : UEmb _ 𝕄) ((plan A).payload g r d) :=
  payOf_storable A g.1.1 d (ctrOf g.2)

theorem duties_ctr (c : Dev nD) (j : Ctr) : (plan A).duties (ctr c j) 0 = dutiesOf (some j) := by
  dsimp only [plan]
  rw [if_pos ⟨rfl, rfl⟩, ctrOf_semOf]

theorem duties_later (g : GSem nD τ sig) : ∀ r, 1 ≤ r → (plan A).duties g r = ∅ :=
  fun r hr => if_neg fun h => by omega

theorem amount_ctr (c : Dev nD) (j : Ctr) (d : Fin 3) : (plan A).amount (ctr c j) 0 d = unit j := by
  show unitOf (ctrOf (semOf j)) = _
  rw [ctrOf_semOf]; rfl

theorem payload_ctr (c : Dev nD) (j : Ctr) (d : Fin 3) : (plan A).payload (ctr c j) 0 d = payOf A c d (some j) := by
  show payOf A c d (ctrOf (semOf j)) = _
  rw [ctrOf_semOf]

theorem payload_bar (c : Dev nD) (d : Fin 3) : (plan A).payload (ctr c bar) 0 d = barPay c d := payload_ctr A c bar d
theorem payload_snd (c : Dev nD) (s : Slot) (d : Fin 3) : (plan A).payload (ctr c (snd s)) 0 d = sendPay A c s := payload_ctr A c (snd s) d
theorem payload_rcv (c : Dev nD) (s : Slot) (d : Fin 3) : (plan A).payload (ctr c (rcv s)) 0 d = recvPay A c s := payload_ctr A c (rcv s) d

theorem expect_bar (c : Dev nD) : (plan A).expect (ctr c bar) 0 = 3 := by
  unfold Schedule.expect Schedule.amountOf
  rw [duties_ctr, Finset.sum_congr rfl fun d _ => amount_ctr A c bar d]; rfl

theorem expect_xfer (c : Dev nD) (o : Slot ⊕ Slot) : (plan A).expect (ctr c (.inr o)) 0 = N := by
  unfold Schedule.expect Schedule.amountOf
  rw [duties_ctr, Finset.sum_congr rfl fun d _ => amount_ctr A c (.inr o) d]
  exact Finset.sum_singleton _ _

theorem rest_bar (c : Dev nD) :
    bigSep ((plan A).duties (ctr c bar) 0 \ ∅) (fun d => (plan A).payload (ctr c bar) 0 d) = bigSep Finset.univ (barPay (F := F) c) := by
  rw [Finset.sdiff_empty, duties_ctr, bigSep_congr fun d _ => payload_ctr A c bar d]; rfl

theorem rest_snd (c : Dev nD) (s : Slot) :
    bigSep ((plan A).duties (ctr c (snd s)) 0 \ ∅) (fun d => (plan A).payload (ctr c (snd s)) 0 d) = sendPay A c s := by
  rw [Finset.sdiff_empty, duties_ctr, bigSep_congr fun d _ => payload_ctr A c (snd s) d]
  exact bigSep_singleton

theorem rest_rcv (c : Dev nD) (s : Slot) :
    bigSep ((plan A).duties (ctr c (rcv s)) 0 \ ∅) (fun d => (plan A).payload (ctr c (rcv s)) 0 d) = recvPay A c s := by
  rw [Finset.sdiff_empty, duties_ctr, bigSep_congr fun d _ => payload_ctr A c (rcv s) d]
  exact bigSep_singleton

/-! ## What is owed, and the order of the waits -/

/-- A duty a device has yet to do: raise counter `j` of its neighbour `k`. -/
abbrev Due : Type := Fin 3 × Ctr

def owed (c : Dev nD) : List Due → CellTallies nD τ sig Unit
  | [] => 0
  | d :: ds => owed c ds + tallyAt (ctr (peer d.1 c) d.2) () (unit d.2)

theorem owed_bar (c : Dev nD) (k : Fin 3) (ds : List Due) :
    owed c ((k, bar) :: ds) = owed c ds + tallyAt (ctr (peer k c) bar) () 1 := rfl
theorem owed_rcv (c : Dev nD) (k : Fin 3) (s : Slot) (ds : List Due) :
    owed c ((k, rcv s) :: ds) = owed c ds + tallyAt (ctr (peer k c) (rcv s)) () N := rfl

/-- A block's copies, in the order in which they start. -/
abbrev copies (b : Block) : List Due := [(1, rcv (b, 1)), (0, rcv (b, 0)), (2, rcv (b, 2))]

abbrev copiesOf (bs : List Block) : List Due := bs.flatMap copies

abbrev greetings : List Due := [(0, bar), (1, bar), (2, bar)]

def height : Ctr → ℕ
  | .inl _ => 1
  | .inr (.inl _) => 0
  | .inr (.inr s) => 2 + (4 * s.1.1.val + s.1.2.val)

def heightOf : Option Ctr → ℕ
  | some j => height j
  | none => 0

def L (g : GSem nD τ sig) : Finset Unit := if g.1.2 = .tc then Finset.univ else ∅
def lv (g : GSem nD τ sig) (_ : Unit) : ℕ := heightOf (ctrOf g.2)

theorem lv_ctr (c : Dev nD) (j : Ctr) : lv (ctr c j) () = height j := congrArg heightOf (ctrOf_semOf j)

theorem mem_L (c : Dev nD) (sm : SemLoc sig) (u : Unit) : u ∈ L ((c : Thread nD τ), sm) := by
  unfold L; rw [if_pos rfl]; exact Finset.mem_univ u

/-- Anything owed is owed to a neighbour's counter that is on the list. -/
theorem owed_pos (c : Dev nD) {g : GSem nD τ sig} {u : Unit} : ∀ ds : List Due, 0 < owed c ds g u →
    ∃ d ∈ ds, g = ctr (peer d.1 c) d.2
  | [], h => absurd h (Nat.lt_irrefl 0)
  | d :: ds, h => by
    by_cases hg : g = ctr (peer d.1 c) d.2
    · exact ⟨d, List.mem_cons_self, hg⟩
    · have h' : 0 < owed c ds g u := by
        have e : owed c (d :: ds) g u = owed c ds g u := by
          show (owed c ds + tallyAt (ctr (peer d.1 c) d.2) () (unit d.2) : CellTallies nD τ sig Unit) g u = _
          rw [Pi.add_apply, Finsupp.add_apply, tallyAt_apply, if_neg fun h => hg h.1, Nat.add_zero]
        exact e ▸ h
      obtain ⟨d', hd', e⟩ := owed_pos c ds h'
      exact ⟨d', List.mem_cons_of_mem _ hd', e⟩

/-- A device may wait at a semaphore that lies below everything it owes. -/
theorem may_wait (c : Dev nD) (sm : SemLoc sig) (ds : List Due)
    (h : ∀ d ∈ ds, heightOf (ctrOf sm) < height d.2) : (levAts L lv : sProp 𝕄) ⊢ MayWait (c : Thread nD τ) sm () (owed c ds) :=
  MayOwe.of_cut (L := L) (lev := lv) (heightOf (ctrOf sm))
    (fun p hp => mem_L c p.1 p.2)
    (fun g u hg => by obtain ⟨d, -, rfl⟩ := owed_pos c ds hg; exact mem_L _ _ u)
    (fun p hp => by rw [Finset.mem_singleton.mp hp]; exact le_refl _)
    (fun g u hg => by
      obtain ⟨d, hd, rfl⟩ := owed_pos c ds hg
      rw [show lv (ctr (peer d.1 c) d.2) u = height d.2 from lv_ctr _ _]
      exact h d hd)

theorem may_wait_ctr (c : Dev nD) (j : Ctr) (ds : List Due) (h : ∀ d ∈ ds, height j < height d.2) :
    (levAts L lv : sProp 𝕄) ⊢ MayWait (c : Thread nD τ) (semOf j) () (owed c ds) :=
  may_wait c (semOf j) ds fun d hd => by rw [ctrOf_semOf]; exact h d hd

end Cert.AllReduce
-- ==== Proof.Steps.lean ====
/- Single steps of the body: signal, copy, wait, read, write. -/
module

public import proofs.«01_k».proof.Proof.Schedule
public import Idealize.ShloMosaic.Lib.ViewIndex

@[expose] public section

set_option maxRecDepth 16384

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (A : Args F)

/-! ## What every device knows: all counters' rules, and that each is at its round -/

def rules (K : Dev nD × Ctr → ℕ) : sProp 𝕄 :=
  iprop((bigSep Finset.univ fun x : Dev nD × Ctr => cellInv ER (plan A) (K x) (ctr x.1 x.2))
    ∗ bigSep Finset.univ fun x : Dev nD × Ctr => reached ER (ctr x.1 x.2) 0)

instance rules_persistent (K : Dev nD × Ctr → ℕ) : BI.Persistent (rules A K) := by unfold rules; infer_instance

variable (K : Dev nD × Ctr → ℕ)

theorem rule_at (c : Dev nD) (j : Ctr) : rules A K ⊢ cellInv ER (plan A) (K (c, j)) (ctr c j) := by
  have h : (bigSep Finset.univ fun x : Dev nD × Ctr => (cellInv ER (plan A) (K x) (ctr x.1 x.2) : sProp 𝕄))
      ⊢ cellInv ER (plan A) (K (c, j)) (ctr c j) := bigSep_elim (Finset.mem_univ (c, j))
  unfold rules
  iintro ⟨H, -⟩
  iapply h; iexact H

theorem reached_at (c : Dev nD) (j : Ctr) : rules A K ⊢ reached ER (ctr c j) 0 := by
  have h : (bigSep Finset.univ fun x : Dev nD × Ctr => (reached ER (ctr x.1 x.2) 0 : sProp 𝕄)) ⊢ reached ER (ctr c j) 0 :=
    bigSep_elim (Finset.mem_univ (c, j))
  unfold rules
  iintro ⟨-, H⟩
  iapply h; iexact H

/-- The right to do a duty of a counter, -/
abbrev tok (c : Dev nD) (j : Ctr) (d : Fin 3) : sProp 𝕄 := dutyTok ER (ctr c j) 0 d
/-- a device's standing at a counter it has not waited at, -/
abbrev pos (c : Dev nD) (j : Ctr) : sProp 𝕄 := atPos ER (ctr c j) 0 ∅ 0
/-- the promise that a transfer counter will be raised. -/
abbrev due (c : Dev nD) (s : Slot ⊕ Slot) : sProp 𝕄 := cred (tallyAt (ctr c (.inr s)) () N)

abbrev run (c : Dev nD) {α : Type} (p : Body F α) (Q : α → sProp 𝕄) : sProp 𝕄 :=
  wp frame (wpE (defs₀ (F := F)) 𝒱₀ (c : Thread nD τ) none) Set.univ p Q

/-! ## Signal -/

theorem run_signal (c : Dev nD) (k : Fin 3) (n : Dev nD) (hn : n = peer k c) (ds : List Due) (W : Waits sig Unit)
    (Q : PUnit → sProp 𝕄) :
    iprop(rules A K ∗ owes (c : Thread nD τ) (owed c ((k, bar) :: ds)) W ∗ tok (peer k c) bar k ∗ barPay (peer k c) k)
      ⊢ iprop((owes (c : Thread nD τ) (owed c ds) W -∗ Q ⟨⟩) -∗ run c (semSignalWord n barS 1#32) Q) := by
  subst hn
  simp only [semSignalWord, Prog.lift, run]
  iintro ⟨#HR, HO, Ht, Hp⟩ HQ
  iapply (Rounds.wp_signal 𝒱₀ ER (plan A) (c : Thread nD τ) none (dst := (peer k c : Thread nD τ)) (κ := K (peer k c, bar))
      (r := 0) (d := k) (by rw [duties_ctr A (peer k c) bar]; exact Finset.mem_univ _) ((amount_ctr A (peer k c) bar k).trans (by decide)) () (owed c ds) (owed_bar c k ds))
    $$ [HO Ht Hp]
  · isplitr; · iapply (rule_at A K (peer k c) bar); iexact HR
    isplitl [HO]; · iexact HO
    isplitl [Ht]; · iexact Ht
    isplitl [Hp]; · rw [payload_bar A (peer k c) k]; iexact Hp
    iapply (reached_at A K (peer k c) bar); iexact HR
  iintro HO
  rw [wp_ret]; imodintro
  iapply HQ; iexact HO

/-! ## Copy -/

theorem amount_place (l : Fin 3) (ch : Fin 4) (k : Fin 3) : (commV l ch k).view.amount (.dma (recvS l ch k)) = N := rfl

/-- What the schedule says a copy brings is what a copy brings. -/
theorem landed (c : Dev nD) (s : Slot) (fd : Buf (Elt F) ((placeOf s).view.loc (peer s.2 c : Thread nD τ))) (X : FVec F S16x512 .bf16)
    (hX : X = low (part A s.1.2 s.1.1 c)) :
    ((placeOf s).view.loc (peer s.2 c : Thread nD τ) ↦[(placeOf s).view.set]{fullShare} (placeOf s).view.write (Elt F) fd X Finset.univ : sProp 𝕄)
      ⊢ recvPay A (peer s.2 c) s := by
  subst hX
  unfold recvPay owns
  iintro H
  iexists (placeOf s).view.write (Elt F) fd (low (part A s.1.2 s.1.1 c)) Finset.univ
  isplitr
  · ipureintro
    rw [Equiv.symm_apply_apply]
    exact View.read_write_univ _ _
  iexact H

set_option maxHeartbeats 1600000 in
/-- A copy at the head of a program, on the elements themselves. -/
theorem start_copy (c : Dev nD) (l : Fin 3) (ch : Fin 4) (k : Fin 3)
    {hsc : (commV l ch k : Memref sig (Dev.tc (peer k c) : Thread nD τ).2.kind .vmem S16x512 .bf16).view.ref.isScScratch = false}
    {hsrc : (stageV l ch).view.WordExact} {hdst : (commV l ch k).view.WordExact}
    {hsem : DmaTarget.Typed .vmem (.dma (recvS l ch k))
      (.remote (Dev.tc (peer k c) : Thread nD τ) (commV l ch k : Memref sig .tc .vmem S16x512 .bf16) (.dma (sendS l ch k)) hsc)}
    {α : Type} {Q : α → sProp 𝕄} {kt : PUnit → Body F α}
    (f : Buf (Elt F) ((stageV l ch).view.loc (c : Thread nD τ))) (g : Buf (Elt F) ((commV l ch k).view.loc (peer k c : Thread nD τ)))
    (hf : (stageV l ch).view.read (Elt F) f = low (part A ch l c)) (ds : List Due) (W : Waits sig Unit) :
    iprop(cellInv ER (plan A) (K (c, snd ((l, ch), k))) (ctr c (snd ((l, ch), k)))
        ∗ cellInv ER (plan A) (K (peer k c, rcv ((l, ch), k))) (ctr (peer k c) (rcv ((l, ch), k)))
        ∗ ((stageV l ch).view.loc (c : Thread nD τ) ↦[(stageV l ch).view.set]{third k} f)
        ∗ ((commV l ch k).view.loc (peer k c : Thread nD τ) ↦[(commV l ch k).view.set]{fullShare} g)
        ∗ owes (c : Thread nD τ) (owed c ((k, rcv ((l, ch), k)) :: ds)) W
        ∗ tok c (snd ((l, ch), k)) 0 ∗ reached ER (ctr c (snd ((l, ch), k))) 0
        ∗ tok (peer k c) (rcv ((l, ch), k)) 0 ∗ reached ER (ctr (peer k c) (rcv ((l, ch), k))) 0)
      ⊢ iprop(((due c (.inl ((l, ch), k)) ∗ owes (c : Thread nD τ) (owed c ds) W) -∗ run c (kt ⟨⟩) Q)
          -∗ run c (.op (.enqueueDma (stageV l ch) (.remote (Dev.tc (peer k c) : Thread nD τ) (commV l ch k) (.dma (sendS l ch k)) hsc)
              (.dma (recvS l ch k)) hsrc hdst hsem) kt) Q) :=
  Rounds.wp_send_pointsTo 𝒱₀ ER (plan A) (c : Thread nD τ) none (κ₁ := K (c, snd ((l, ch), k))) (κ₂ := K (peer k c, rcv ((l, ch), k)))
    (r₁ := 0) (r₂ := 0) (d₁ := 0) (d₂ := 0) (fs := f) (fd := g) (q := third k)
    (by rw [duties_ctr A c (snd ((l, ch), k))]; exact Finset.mem_singleton_self _)
    (by rw [duties_ctr A (peer k c) (rcv ((l, ch), k))]; exact Finset.mem_singleton_self _)
    () () N (amount_place l ch k) (amount_ctr A c (snd ((l, ch), k)) 0) (amount_ctr A (peer k c) (rcv ((l, ch), k)) 0)
    (owed c ds) (owed_rcv c k ((l, ch), k) ds) (W := W)
    (by
      rw [payload_snd A c ((l, ch), k)]
      unfold sendPay owns
      iintro H; iexists f
      isplitr; · ipureintro; exact hf
      iexact H)
    (by
      rw [payload_rcv A (peer k c) ((l, ch), k)]
      exact landed A c ((l, ch), k) g _ hf)

theorem run_copy (c : Dev nD) (l : Fin 3) (ch : Fin 4) (k : Fin 3) (n : Dev nD) (hn : n = peer k c) (ds : List Due) (W : Waits sig Unit)
    (Q : PUnit → sProp 𝕄) :
    iprop(rules A K ∗ sendPay A c ((l, ch), k) ∗ hole (peer k c) (commV l ch k)
        ∗ tok c (snd ((l, ch), k)) 0 ∗ tok (peer k c) (rcv ((l, ch), k)) 0
        ∗ owes (c : Thread nD τ) (owed c ((k, rcv ((l, ch), k)) :: ds)) W)
      ⊢ iprop((due c (.inl ((l, ch), k)) ∗ owes (c : Thread nD τ) (owed c ds) W -∗ Q ⟨⟩) -∗ run c (copyTo l ch k n) Q) := by
  subst hn
  unfold copyTo sendPay owns hole Prog.lift
  iintro ⟨#HR, ⟨%f, %hf, Hs⟩, ⟨%g, Hd⟩, Hts, Htr, HO⟩ HQ
  iapply (start_copy A K c l ch k f g hf ds W) $$ [Hs Hd Hts Htr HO]
  · isplitr; · iapply (rule_at A K c (snd ((l, ch), k))); iexact HR
    isplitr; · iapply (rule_at A K (peer k c) (rcv ((l, ch), k))); iexact HR
    isplitl [Hs]; · iexact Hs
    isplitl [Hd]; · iexact Hd
    isplitl [HO]; · iexact HO
    isplitl [Hts]; · iexact Hts
    isplitr; · iapply (reached_at A K c (snd ((l, ch), k))); iexact HR
    isplitl [Htr]; · iexact Htr
    iapply (reached_at A K (peer k c) (rcv ((l, ch), k))); iexact HR
  iintro ⟨Hc, HO⟩
  unfold run
  rw [wp_ret]; imodintro
  iapply HQ
  isplitl [Hc]; · iexact Hc
  iexact HO

/-! ## Waits -/

/-- A wait at a transfer counter gives what the transfer hands over, and the counter back at zero. -/
theorem run_wait (c : Dev nD) (o : Slot ⊕ Slot) (w : TpuEff nD τ sig (Elt F) Λ₀ (c : Thread nD τ).2 PUnit) (P : sProp 𝕄)
    (hw : ∀ X : PUnit → sProp 𝕄, wpE (defs₀ (F := F)) 𝒱₀ (c : Thread nD τ) none Set.univ w X
      = waitSpec (c : Thread nD τ) Set.univ (semOf (.inr o)) N X)
    (hP : bigSep ((plan A).duties (ctr c (.inr o)) 0 \ ∅) (fun d => (plan A).payload (ctr c (.inr o)) 0 d) = P)
    (ds : List Due) (hds : ∀ d ∈ ds, height (.inr o) < height d.2) (W : Waits sig Unit) (Q : PUnit → sProp 𝕄) :
    iprop(rules A K ∗ levAts L lv ∗ due c o ∗ pos c (.inr o) ∗ owes (c : Thread nD τ) (owed c ds) W)
      ⊢ iprop((P ∗ semVal (ctr c (.inr o)) 0 ∗ owes (c : Thread nD τ) (owed c ds) (insert (semOf (.inr o), ()) W) -∗ Q ⟨⟩)
          -∗ run c (.op w .ret) Q) := by
  unfold run
  iintro ⟨#HR, #HL, Hc, Hp, HO⟩ HQ
  iapply (Rounds.wp_wait_rest_token 𝒱₀ ER (plan A) (c : Thread nD τ) none (κ := K (c, .inr o))
      hw (Set.mem_univ _) () (O := owed c ds) (W := W) (R := 0) (m := 0) (T := ∅)
      (by rw [Nat.zero_add]; exact (expect_xfer A c o).symm)) $$ [Hc HO Hp]
  · isplitr; · iapply (rule_at A K c (.inr o)); iexact HR
    isplitl [Hc]; · iexact Hc
    isplitl [HO]; · iexact HO
    isplitr; · iapply (may_wait_ctr c (.inr o) ds hds); iexact HL
    iexact Hp
  iintro ⟨HO, Hp, -, Hpay⟩
  ihave Hpay := (Entails.of_eq hP) $$ Hpay
  imod (Rounds.cell_close ER (plan A) (Set.mem_univ (K (c, .inr o))) (fun h => h) (R := 0 + 1) (duties_later A (ctr c (.inr o)))) $$ [Hp] with Hz
  · isplitr; · iapply (rule_at A K c (.inr o)); iexact HR
    iexact Hp
  rw [wp_ret]; imodintro
  iapply HQ
  isplitl [Hpay]; · iexact Hpay
  isplitl [Hz]; · iexact Hz
  iexact HO

theorem run_await (c : Dev nD) (l : Fin 3) (ch : Fin 4) (k : Fin 3)
    (ds : List Due) (hds : ∀ d ∈ ds, height (rcv ((l, ch), k)) < height d.2) (W : Waits sig Unit) (Q : PUnit → sProp 𝕄) :
    iprop(rules A K ∗ levAts L lv ∗ due c (.inr ((l, ch), k)) ∗ pos c (rcv ((l, ch), k)) ∗ owes (c : Thread nD τ) (owed c ds) W)
      ⊢ iprop((recvPay A c ((l, ch), k) ∗ semVal (ctr c (rcv ((l, ch), k))) 0
            ∗ owes (c : Thread nD τ) (owed c ds) (insert (semOf (rcv ((l, ch), k)), ()) W) -∗ Q ⟨⟩)
          -∗ run c (await l ch k) Q) := by
  unfold await Prog.lift
  exact run_wait A K c (.inr ((l, ch), k)) _ _ (by intro X; rfl) (rest_rcv A c ((l, ch), k)) ds hds W Q

theorem run_settle (c : Dev nD) (l : Fin 3) (ch : Fin 4) (k : Fin 3)
    (ds : List Due) (hds : ∀ d ∈ ds, height (snd ((l, ch), k)) < height d.2) (W : Waits sig Unit) (Q : PUnit → sProp 𝕄) :
    iprop(rules A K ∗ levAts L lv ∗ due c (.inl ((l, ch), k)) ∗ pos c (snd ((l, ch), k)) ∗ owes (c : Thread nD τ) (owed c ds) W)
      ⊢ iprop((sendPay A c ((l, ch), k) ∗ semVal (ctr c (snd ((l, ch), k))) 0
            ∗ owes (c : Thread nD τ) (owed c ds) (insert (semOf (snd ((l, ch), k)), ()) W) -∗ Q ⟨⟩)
          -∗ run c (settle l ch k) Q) := by
  unfold settle Prog.lift
  exact run_wait A K c (.inl ((l, ch), k)) _ _ (by intro X; rfl) (rest_snd A c ((l, ch), k)) ds hds W Q

/-- The wait for the three others. -/
theorem run_meet_wait (c : Dev nD) (ds : List Due) (hds : ∀ d ∈ ds, height bar < height d.2) (W : Waits sig Unit) (Q : PUnit → sProp 𝕄) :
    iprop(rules A K ∗ levAts L lv ∗ cred (tallyAt (ctr c bar) () 3) ∗ pos c bar ∗ owes (c : Thread nD τ) (owed c ds) W)
      ⊢ iprop((bigSep Finset.univ (barPay (F := F) c) ∗ semVal (ctr c bar) 0
            ∗ owes (c : Thread nD τ) (owed c ds) (insert (semOf bar, ()) W) -∗ Q ⟨⟩)
          -∗ run c (semWaitWord barS 3#32) Q) := by
  simp only [semWaitWord, Prog.lift, run]
  iintro ⟨#HR, #HL, Hc, Hp, HO⟩ HQ
  iapply (Rounds.wp_wait_rest_token 𝒱₀ ER (plan A) (c : Thread nD τ) none (κ := K (c, bar))
      (wpE_semWait_eq 𝒱₀ (c : Thread nD τ) none Set.univ) (Set.mem_univ _) () (O := owed c ds) (W := W) (R := 0) (m := 0) (T := ∅)
      (by rw [expect_bar A c]; decide)) $$ [Hc HO Hp]
  · isplitr; · iapply (rule_at A K c bar); iexact HR
    isplitl [Hc]; · iexact Hc
    isplitl [HO]; · iexact HO
    isplitr; · iapply (may_wait_ctr c bar ds hds); iexact HL
    iexact Hp
  iintro ⟨HO, Hp, -, Hpay⟩
  ihave Hpay := (Entails.of_eq (rest_bar A c)) $$ Hpay
  imod (Rounds.cell_close ER (plan A) (Set.mem_univ (K (c, bar))) (fun h => h) (R := 0 + 1) (duties_later A (ctr c bar))) $$ [Hp] with Hz
  · isplitr; · iapply (rule_at A K c bar); iexact HR
    iexact Hp
  rw [wp_ret]; imodintro
  iapply HQ
  isplitl [Hpay]; · iexact Hpay
  isplitl [Hz]; · iexact Hz
  iexact HO

end Cert.AllReduce
-- ==== Proof.Access.lean ====
/- Reading and writing the arrays: what a staged block holds, what a landed copy reads, what the result holds. -/
module

public import proofs.«01_k».proof.Proof.Steps

@[expose] public section

set_option maxRecDepth 16384

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem run_bind (c : Dev nD) {α β : Type} (p : Body F α) (k : α → Body F β) (Q : β → sProp 𝕄) :
    run c (p >>= k) Q = run c p fun a => run c (k a) Q := wp_bind ..

theorem run_pure (c : Dev nD) {α : Type} (a : α) (Q : α → sProp 𝕄) : Q a ⊢ run c (pure a : Body F α) Q := by
  unfold run
  rw [Prog.pure_eq_ret, wp_ret]
  iintro H; imodintro; iexact H

/-! ## One read, one write -/

theorem run_load (c : Dev nD) {s : Shape} {e : EltTy} (m : Memref sig .tc .vmem s e) (r : Rect s) (hl : m.view.LoadsAt r.toLoadRect)
    (S : Finset (Idx (m.view.loc (c : Thread nD τ)))) (q : PosShare TreeShare) (f : Buf (Elt F) (m.view.loc (c : Thread nD τ)))
    (hS : (m.access r).set ⊆ S) (Q : (r.toLoadRect.shape.Idx → Elt F e) → sProp 𝕄) :
    (m.view.loc (c : Thread nD τ) ↦[S]{q} f)
      ⊢ iprop(((m.view.loc (c : Thread nD τ) ↦[S]{q} f) -∗ Q (m.view.readAt (Elt F) r.toLoadRect f))
          -∗ run c (Prog.lift (.load m r.toLoadRect hl)) Q) := by
  unfold run Prog.lift
  iintro H HQ
  iapply (wp_load 𝒱₀ (c : Thread nD τ) none Set.univ (m := m) (r := r.toLoadRect) (by rwa [View.set_slice] at hS)) $$ H
  iintro H
  rw [wp_ret]; imodintro
  iapply HQ; iexact H

theorem run_store (c : Dev nD) {s : Shape} {e : EltTy} (m : Memref sig .tc .vmem s e) (r : Rect s) (w : r.shape.Idx → Elt F e)
    (hx : (m.access r).Stores Finset.univ) (hm : (Finset.univ : Finset r.shape.Idx) = Finset.univ ∨ ∀ a, r.stride a = 1)
    (S : Finset (Idx (m.view.loc (c : Thread nD τ)))) (f : Buf (Elt F) (m.view.loc (c : Thread nD τ)))
    (hS : (m.access r).set ⊆ S) (Q : PUnit → sProp 𝕄) :
    (m.view.loc (c : Thread nD τ) ↦[S]{fullShare} f)
      ⊢ iprop(((m.view.loc (c : Thread nD τ) ↦[S]{fullShare} (m.access r).write (Elt F) f w Finset.univ) -∗ Q ⟨⟩)
          -∗ run c (Prog.lift (.store m r w Finset.univ hx hm)) Q) := by
  unfold run Prog.lift
  iintro H HQ
  iapply (wp_store 𝒱₀ (c : Thread nD τ) none Set.univ (m := m) (r := r) (Mk := Finset.univ) hS) $$ H
  iintro H
  rw [wp_ret]; imodintro
  iapply HQ; iexact H

/-! ## The staged block -/

theorem stage_set (l : Fin 3) (ch : Fin 4) : (stageV l ch).view.set = (stageM.access (stageR l ch)).set := View.set_reshape ..

theorem place_set (l : Fin 3) (ch : Fin 4) (k : Fin 3) : (commV l ch k).view.set = (commM.access (commR l ch k)).set := View.set_reshape ..

/-- Reading a re-indexed view after its original was written with a re-indexed array gives the array. -/
theorem read_reshape_write {κ : Kind} {sp : Space} {s s' : Shape} {e : EltTy} (v : View sig κ sp s e) (h : s'.numel = s.numel) (h' : s.numel = s'.numel)
    (f : v.ty.Contents (Elt F)) (w : s'.Idx → Elt F e) :
    (v.reshape s' h).read (Elt F) (v.write (Elt F) f (shapeCast s w h') Finset.univ) = w := by
  funext j
  have e1 : (v.reshape s' h).read (Elt F) (v.write (Elt F) f (shapeCast s w h') Finset.univ) j
      = v.read (Elt F) (v.write (Elt F) f (shapeCast s w h') Finset.univ) (Shape.reshapeEquiv h j) := rfl
  rw [e1, View.read_write_univ]
  show w (Shape.reshapeEquiv h' (Shape.reshapeEquiv h j)) = w j
  rw [Shape.reshapeEquiv_reshapeEquiv, Shape.reshapeEquiv_self]

/-- After the store, the copies read the low-precision product. -/
theorem staged (l : Fin 3) (ch : Fin 4) (f : stageM.view.ty.Contents (Elt F)) (p : FVec F S16x512 .f32) :
    (stageV l ch).view.read (Elt F) ((stageM.access (stageR l ch)).write (Elt F) f (wire p) Finset.univ) = low p := by
  have h := read_reshape_write (F := F) (s' := S16x512) (stageM.access (stageR l ch)) (Eq.symm shapeCasts_S16x512_S1x1x16x512)
    shapeCasts_S16x512_S1x1x16x512 f (truncf .bf16 p bitsLt_bf16_f32)
  unfold wire low
  exact h

/-- A landed copy, read for the sum. -/
theorem wide_landed (l : Fin 3) (ch : Fin 4) (k : Fin 3) (f : commM.view.ty.Contents (Elt F)) :
    wide (commM.view.readAt (Elt F) (commR l ch k).toLoadRect f) = high ((commV l ch k).view.read (Elt F) f) := rfl

theorem split_stage (c : Dev nD) (b : Block) (X : FVec F S16x512 .bf16) :
    (owns (c : Thread nD τ) (stageOf b) fullShare X : sProp 𝕄)
      ⊣⊢ iprop(owns (c : Thread nD τ) (stageOf b) (third 0) X ∗ owns (c : Thread nD τ) (stageOf b) (third 1) X
          ∗ owns (c : Thread nD τ) (stageOf b) (third 2) X) :=
  ownsSat_thirds (Val := Elt F) (c : Thread nD τ) (stageOf b) fullShare (fun Y : S16x512.Idx → Elt F .bf16 => Y = X)

theorem hole_of_owns {s : Shape} {e : EltTy} (c : Dev nD) (M : Memref sig .tc .vmem s e) (X : s.Idx → Elt F e) :
    (owns (c : Thread nD τ) M fullShare X : sProp 𝕄) ⊢ hole c M := by
  unfold owns hole
  iintro ⟨%f, -, H⟩
  iexists f; iexact H

/-! ## The arguments -/

theorem whole_read {s : Shape} {e : EltTy} (m : Memref sig .tc .vmem s e) {off : Fin s.rank → ℕ} (h : ∀ a, off a = 0)
    (inb : ∀ a, off a + s.size a ≤ s.size a) (f : m.view.ty.Contents (Elt F)) :
    m.view.readAt (Elt F) (Rect.unit off s.size inb).toLoadRect f = m.view.read (Elt F) f := by
  funext j
  rw [View.readAt_apply]
  congr 1
  funext a
  apply Fin.ext
  show off a + 1 * (j a).val = (j a).val
  rw [h a]; omega

theorem access_set_subset {s : Shape} {e : EltTy} (m : Memref sig .tc .vmem s e) (r : Rect s) : (m.access r).set ⊆ m.view.set :=
  View.set_slice_subset ..

theorem run_whole (c : Dev nD) {s : Shape} {e : EltTy} (m : Memref sig .tc .vmem s e) (X : s.Idx → Elt F e) {off : Fin s.rank → ℕ}
    (h : ∀ a, off a = 0) (inb : ∀ a, off a + s.size a ≤ s.size a) (hl : m.view.LoadsAt (Rect.unit off s.size inb).toLoadRect)
    (Q : (s.Idx → Elt F e) → sProp 𝕄) :
    (owns (c : Thread nD τ) m fullShare X : sProp 𝕄)
      ⊢ iprop((owns (c : Thread nD τ) m fullShare X -∗ Q X)
          -∗ run c (Prog.lift (.load m (Rect.unit off s.size inb).toLoadRect hl)) Q) := by
  unfold owns
  iintro ⟨%f, %hf, H⟩ HQ
  iapply (run_load c m (Rect.unit off s.size inb) hl _ _ f (access_set_subset _ _) Q) $$ H
  iintro H
  rw [whole_read m h inb f, hf]
  iapply HQ
  iexists f
  isplitr; · ipureintro; exact hf
  iexact H

/-! ## The result -/

variable (A : Args F)

/-- The first `n` chunks of `X` are the result's. -/
def Filled (c : Dev nD) (n : ℕ) (X : FVec F S64x512 .f32) : Prop :=
  ∀ ch : Fin 4, ch.val < n → (outM.access (rowsR ch)).read (Elt F) X = total (part A ch 2) c

theorem chunks_disjoint (ch ch' : Fin 4) (h : ch ≠ ch') : Disjoint (outM.access (rowsR ch)).set (outM.access (rowsR ch')).set := by
  rw [Finset.disjoint_left]
  intro i hi hi'
  obtain ⟨j, -, rfl⟩ := Finset.mem_map.mp hi
  obtain ⟨j', -, e⟩ := Finset.mem_map.mp hi'
  have e0 : 16 * ch'.val + 1 * (j' 0).val = 16 * ch.val + 1 * (j 0).val := congrArg (fun i : S64x512.Idx => (i 0).val) e
  have h1 : (j 0).val < 16 := (j 0).isLt
  have h2 : (j' 0).val < 16 := (j' 0).isLt
  apply h; apply Fin.ext; omega

theorem Filled.step {c : Dev nD} {ch : Fin 4} {X : FVec F S64x512 .f32} (h : Filled A c ch.val X) :
    Filled A c (ch.val + 1) ((outM.access (rowsR ch)).write (Elt F) X (total (part A ch 2) c) Finset.univ) := by
  intro ch' h'
  by_cases e : ch' = ch
  · subst e
    exact View.read_write_univ _ _
  · rw [← h ch' (by have : ch'.val ≠ ch.val := fun h => e (Fin.ext h); omega)]
    exact View.read_slice_write_slice_of_disjoint _ _ _ _ _ (chunks_disjoint ch' ch e)

/-- The place of an entry within its chunk. -/
def within (i : S64x512.Idx) : S16x512.Idx := fun a => match a with
  | 0 => ⟨(i 0).val % 16, Nat.mod_lt _ (by decide)⟩
  | 1 => i 1

/-- The whole result of a device: row `i` is row `i % 16` of chunk `i / 16`. -/
def result (c : Dev nD) : FVec F S64x512 .f32 := fun i =>
  total (part A ⟨(i 0).val / 16, by have : (i 0).val < 64 := (i 0).isLt; omega⟩ 2) c (within i)

theorem Filled.eq_result {c : Dev nD} {X : FVec F S64x512 .f32} (h : Filled A c 4 X) : X = result A c := by
  funext i
  have hi : (i 0).val < 64 := (i 0).isLt
  have e := congrFun (h ⟨(i 0).val / 16, by omega⟩ (by show (i 0).val / 16 < 4; omega)) (within i)
  refine Eq.trans ?_ e
  rw [View.read_apply]
  show X i = X _
  congr 1
  funext a
  apply Fin.ext
  match a with
  | 0 => show (i 0).val = 16 * ((i 0).val / 16) + 1 * ((i 0).val % 16); omega
  | 1 => show (i 1).val = 0 + 1 * (i 1).val; omega

theorem run_putOut (c : Dev nD) (ch : Fin 4) (Q : PUnit → sProp 𝕄) :
    iprop(∃ X, ⌜Filled A c ch.val X⌝ ∗ owns (c : Thread nD τ) outM fullShare X)
      ⊢ iprop(((∃ X, ⌜Filled A c (ch.val + 1) X⌝ ∗ owns (c : Thread nD τ) outM fullShare X) -∗ Q ⟨⟩)
          -∗ run c (putOut ch (total (part A ch 2) c)) Q) := by
  unfold putOut owns
  rw [run_bind]
  iintro ⟨%X, %hX, %f, %hf, H⟩ HQ
  iapply (run_load c outM (rowsR ch) _ _ _ f (access_set_subset _ _) _) $$ H
  iintro H
  iapply (run_store c outM (rowsR ch) _ _ _ _ f (access_set_subset _ _) Q) $$ H
  iintro H
  iapply HQ
  iexists (outM.access (rowsR ch)).write (Elt F) X (total (part A ch 2) c) Finset.univ
  isplitr; · ipureintro; exact hX.step
  iexists _
  isplitr
  rotate_left
  · iexact H
  ipureintro
  have hfX : f = X := hf
  subst hfX; rfl

end Cert.AllReduce
-- ==== Proof.Blocks.lean ====
/- The pieces of the body: what each needs and what it leaves. -/
module

public import proofs.«01_k».proof.Proof.Access

@[expose] public section

set_option maxRecDepth 16384

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What a block has -/

/-- One thing for each of the three places. -/
abbrev each3 (Φ : Fin 3 → sProp 𝕄) : sProp 𝕄 := iprop(Φ 0 ∗ Φ 1 ∗ Φ 2)

/-- A device still owes the duties on the list, whatever it has waited for. -/
def owing (c : Dev nD) (ds : List Due) : sProp 𝕄 := iprop(∃ W : Waits sig Unit, owes (c : Thread nD τ) (owed c ds) W)

/-- To send a block: its staging place, the three places it goes to, and the right to do the six duties. -/
def Ready (c : Dev nD) (b : Block) : sProp 𝕄 :=
  iprop(hole c (stageOf b) ∗ each3 fun k => iprop(hole (peer k c) (placeOf (b, k)) ∗ tok c (snd (b, k)) 0 ∗ tok (peer k c) (rcv (b, k)) 0))

/-- A block sent: its copies will leave. -/
def Sent (c : Dev nD) (b : Block) : sProp 𝕄 := each3 fun k => due c (.inl (b, k))

/-- To learn that they have left. -/
def Watch (c : Dev nD) (b : Block) : sProp 𝕄 := each3 fun k => pos c (snd (b, k))

/-- They have left: the staging place is free again. -/
def Settled (c : Dev nD) (b : Block) : sProp 𝕄 := iprop(hole c (stageOf b) ∗ each3 fun k => semVal (ctr c (snd (b, k))) 0)

/-- To receive a block: copies will arrive. -/
def Coming (c : Dev nD) (b : Block) : sProp 𝕄 := each3 fun k => iprop(due c (.inr (b, k)) ∗ pos c (rcv (b, k)))

/-- They have arrived and been read. -/
def Come (c : Dev nD) (b : Block) : sProp 𝕄 := each3 fun k => iprop(hole c (placeOf (b, k)) ∗ semVal (ctr c (rcv (b, k))) 0)

variable (A : Args F)

/-- The three layers' weights. -/
def Weights (c : Dev nD) : sProp 𝕄 :=
  each3 fun l => iprop(owns (c : Thread nD τ) (winM l) fullShare (A.wi c l) ∗ owns (c : Thread nD τ) (woutM l) fullShare (A.wo c l))

/-- The result's buffer with its first `n` chunks written. -/
def Out (c : Dev nD) (n : ℕ) : sProp 𝕄 := iprop(∃ X, ⌜Filled A c n X⌝ ∗ owns (c : Thread nD τ) outM fullShare X)

theorem weights_at (c : Dev nD) (l : Fin 3) :
    Weights A c ⊢ iprop((owns (c : Thread nD τ) (winM l) fullShare (A.wi c l) ∗ owns (c : Thread nD τ) (woutM l) fullShare (A.wo c l))
      ∗ ((owns (c : Thread nD τ) (winM l) fullShare (A.wi c l) ∗ owns (c : Thread nD τ) (woutM l) fullShare (A.wo c l)) -∗ Weights A c)) := by
  unfold Weights
  match l with
  | 0 =>
    iintro ⟨H, H1, H2⟩
    isplitl [H]; · iexact H
    iintro H
    isplitl [H]; · iexact H
    isplitl [H1]; · iexact H1
    iexact H2
  | 1 =>
    iintro ⟨H0, H, H2⟩
    isplitl [H]; · iexact H
    iintro H
    isplitl [H0]; · iexact H0
    isplitl [H]; · iexact H
    iexact H2
  | 2 =>
    iintro ⟨H0, H1, H⟩
    isplitl [H]; · iexact H
    iintro H
    isplitl [H0]; · iexact H0
    isplitl [H1]; · iexact H1
    iexact H

variable (K : Dev nD × Ctr → ℕ)

/-! ## Sending a block -/

set_option maxHeartbeats 800000 in
theorem run_sendBlock (c : Dev nD) (l : Fin 3) (ch : Fin 4) (n : Fin 3 → Dev nD) (hn : ∀ k, n k = peer k c) (ds : List Due)
    (Q : PUnit → sProp 𝕄) :
    iprop(rules A K ∗ Ready c (l, ch) ∗ owing c (copies (l, ch) ++ ds))
      ⊢ iprop((Sent c (l, ch) ∗ owing c ds -∗ Q ⟨⟩) -∗ run c (sendBlock l ch n (part A ch l c)) Q) := by
  unfold sendBlock Ready owing
  simp only [run_bind]
  iintro ⟨#HR, ⟨Hs, ⟨Hp0, Hts0, Htr0⟩, ⟨Hp1, Hts1, Htr1⟩, ⟨Hp2, Hts2, Htr2⟩⟩, ⟨%W, HO⟩⟩ HQ
  unfold hole
  icases Hs with ⟨%f, Hs⟩
  iapply (run_load c stageM (stageR l ch) _ _ _ f (stage_set l ch).ge _) $$ Hs
  iintro Hs
  iapply (run_store c stageM (stageR l ch) (wire (part A ch l c)) _ _ _ f (stage_set l ch).ge _) $$ Hs
  iintro Hs
  ihave Hs := (show (_ : sProp 𝕄) ⊢ owns (c : Thread nD τ) (stageOf (l, ch)) fullShare (low (part A ch l c)) from by
    unfold owns
    iintro H
    iexists _
    isplitr
    rotate_left
    · iexact H
    ipureintro; exact staged l ch f (part A ch l c)) $$ Hs
  icases (split_stage c (l, ch) (low (part A ch l c))).1 $$ Hs with ⟨Hs0, Hs1, Hs2⟩
  iapply (run_copy A K c l ch 1 (n 1) (hn 1) ((0, rcv ((l, ch), 0)) :: (2, rcv ((l, ch), 2)) :: ds) W _) $$ [Hs1 Hp1 Hts1 Htr1 HO]
  · isplitr; · iexact HR
    isplitl [Hs1]; · unfold sendPay; iexact Hs1
    isplitl [Hp1]; · unfold hole; iexact Hp1
    isplitl [Hts1]; · iexact Hts1
    isplitl [Htr1]; · iexact Htr1
    iexact HO
  iintro ⟨Hd1, HO⟩
  iapply (run_copy A K c l ch 0 (n 0) (hn 0) ((2, rcv ((l, ch), 2)) :: ds) W _) $$ [Hs0 Hp0 Hts0 Htr0 HO]
  · isplitr; · iexact HR
    isplitl [Hs0]; · unfold sendPay; iexact Hs0
    isplitl [Hp0]; · unfold hole; iexact Hp0
    isplitl [Hts0]; · iexact Hts0
    isplitl [Htr0]; · iexact Htr0
    iexact HO
  iintro ⟨Hd0, HO⟩
  iapply (run_copy A K c l ch 2 (n 2) (hn 2) ds W _) $$ [Hs2 Hp2 Hts2 Htr2 HO]
  · isplitr; · iexact HR
    isplitl [Hs2]; · unfold sendPay; iexact Hs2
    isplitl [Hp2]; · unfold hole; iexact Hp2
    isplitl [Hts2]; · iexact Hts2
    isplitl [Htr2]; · iexact Htr2
    iexact HO
  iintro ⟨Hd2, HO⟩
  iapply HQ
  unfold Sent
  isplitr [HO]
  · isplitl [Hd0]; · iexact Hd0
    isplitl [Hd1]; · iexact Hd1
    iexact Hd2
  iexists W; iexact HO

/-! ## A layer -/

theorem run_layer (c : Dev nD) (l : Fin 3) (ch : Fin 4) (n : Fin 3 → Dev nD) (hn : ∀ k, n k = peer k c) (x : FVec F S16x512 .f32)
    (hx : fwd x (A.wi c l) (A.wo c l) = part A ch l c) (ds : List Due) (Q : FVec F S16x512 .f32 → sProp 𝕄) :
    iprop(rules A K ∗ Weights A c ∗ Ready c (l, ch) ∗ owing c (copies (l, ch) ++ ds))
      ⊢ iprop((Weights A c ∗ Sent c (l, ch) ∗ owing c ds -∗ Q (part A ch l c)) -∗ run c (layer l ch n x) Q) := by
  unfold layer
  simp only [run_bind]
  iintro ⟨#HR, HW, Hb, HO⟩ HQ
  icases (weights_at A c l) $$ HW with ⟨⟨Hi, Ho⟩, HW⟩
  iapply (run_whole c (winM l) (A.wi c l) (by decide) _ _ _) $$ Hi
  iintro Hi
  iapply (run_whole c (woutM l) (A.wo c l) (by decide) _ _ _) $$ Ho
  iintro Ho
  rw [hx]
  iapply (run_sendBlock A K c l ch n hn ds _) $$ [Hb HO]
  · isplitr; · iexact HR
    isplitl [Hb]; · iexact Hb
    iexact HO
  iintro ⟨Hb, HO⟩
  iapply (run_pure c (part A ch l c) Q)
  iapply HQ
  isplitl [HW Hi Ho]
  · iapply HW
    isplitl [Hi]; · iexact Hi
    iexact Ho
  isplitl [Hb]; · iexact Hb
  iexact HO

theorem run_first (c : Dev nD) (ch : Fin 4) (n : Fin 3 → Dev nD) (hn : ∀ k, n k = peer k c) (ds : List Due)
    (Q : FVec F S16x512 .f32 → sProp 𝕄) :
    iprop(rules A K ∗ owns (c : Thread nD τ) xM fullShare (A.x c) ∗ Weights A c ∗ Ready c (0, ch) ∗ owing c (copies (0, ch) ++ ds))
      ⊢ iprop((owns (c : Thread nD τ) xM fullShare (A.x c) ∗ Weights A c ∗ Sent c (0, ch) ∗ owing c ds -∗ Q (part A ch 0 c))
          -∗ run c (first ch n) Q) := by
  unfold first
  simp only [run_bind]
  unfold owns
  iintro ⟨#HR, ⟨%f, %hf, Hx⟩, HW, Hb, HO⟩ HQ
  have hf' : f = A.x c := hf
  subst hf'
  iapply (run_load c xM (rowsR ch) _ _ _ _ (access_set_subset _ _) _) $$ Hx
  iintro Hx
  iapply (run_layer A K c 0 ch n hn _ rfl ds Q) $$ [HW Hb HO]
  · isplitr; · iexact HR
    isplitl [HW]; · iexact HW
    isplitl [Hb]; · iexact Hb
    iexact HO
  iintro ⟨HW, Hb, HO⟩
  iapply HQ
  isplitl [Hx]
  · iexists _
    isplitr
    rotate_left
    · iexact Hx
    ipureintro; rfl
  isplitl [HW]; · iexact HW
  isplitl [Hb]; · iexact Hb
  iexact HO

/-! ## Receiving a block -/

theorem run_landing (c : Dev nD) (l : Fin 3) (ch : Fin 4) (k : Fin 3) (Q : Vec F S1x1x1x16x512 .bf16 → sProp 𝕄) :
    recvPay A c ((l, ch), k)
      ⊢ iprop((∀ w : Vec F S1x1x1x16x512 .bf16, ⌜wide w = high (low (part A ch l ((peer k).symm c)))⌝ -∗ hole c (placeOf ((l, ch), k)) -∗ Q w)
          -∗ run c (landing l ch k) Q) := by
  unfold recvPay owns landing hole
  iintro ⟨%f, %hf, H⟩ HQ
  iapply (run_load c commM (commR l ch k) _ _ _ f (place_set l ch k).ge _) $$ H
  iintro H
  iapply HQ
  · ipureintro
    rw [wide_landed l ch k f]
    exact congrArg high hf
  iexists f; iexact H

set_option maxHeartbeats 800000 in
theorem run_gather (c : Dev nD) (l : Fin 3) (ch : Fin 4) (ds : List Due)
    (hds : ∀ d ∈ ds, 2 + (4 * l.val + ch.val) < height d.2) (Q : FVec F S16x512 .f32 → sProp 𝕄) :
    iprop(rules A K ∗ levAts L lv ∗ Coming c (l, ch) ∗ owing c ds)
      ⊢ iprop((Come c (l, ch) ∗ owing c ds -∗ Q (total (part A ch l) c)) -∗ run c (gather l ch (part A ch l c)) Q) := by
  unfold gather Coming owing
  simp only [run_bind]
  iintro ⟨#HR, #HL, ⟨⟨Hd0, Hp0⟩, ⟨Hd1, Hp1⟩, Hd2, Hp2⟩, %W, HO⟩ HQ
  iapply (run_await A K c l ch 0 ds hds _ _) $$ [Hd0 Hp0 HO]
  · isplitr; · iexact HR
    isplitr; · iexact HL
    isplitl [Hd0]; · iexact Hd0
    isplitl [Hp0]; · iexact Hp0
    iexact HO
  iintro ⟨Hr0, Hz0, HO⟩
  iapply (run_await A K c l ch 1 ds hds _ _) $$ [Hd1 Hp1 HO]
  · isplitr; · iexact HR
    isplitr; · iexact HL
    isplitl [Hd1]; · iexact Hd1
    isplitl [Hp1]; · iexact Hp1
    iexact HO
  iintro ⟨Hr1, Hz1, HO⟩
  iapply (run_await A K c l ch 2 ds hds _ _) $$ [Hd2 Hp2 HO]
  · isplitr; · iexact HR
    isplitr; · iexact HL
    isplitl [Hd2]; · iexact Hd2
    isplitl [Hp2]; · iexact Hp2
    iexact HO
  iintro ⟨Hr2, Hz2, HO⟩
  iapply (run_landing A c l ch 0 _) $$ Hr0
  iintro %a %ha Hr0
  iapply (run_landing A c l ch 1 _) $$ Hr1
  iintro %b %hb Hr1
  iapply (run_landing A c l ch 2 _) $$ Hr2
  iintro %d %hd Hr2
  have e : red (part A ch l c) a b d = total (part A ch l) c := by unfold red total; rw [ha, hb, hd]
  rw [e]
  iapply (run_pure c (total (part A ch l) c) Q)
  iapply HQ
  unfold Come
  isplitr [HO]
  · isplitl [Hr0 Hz0]
    · isplitl [Hr0]; · iexact Hr0
      iexact Hz0
    isplitl [Hr1 Hz1]
    · isplitl [Hr1]; · iexact Hr1
      iexact Hz1
    isplitl [Hr2]; · iexact Hr2
    iexact Hz2
  iexists _; iexact HO

/-- A block of a later layer. -/
theorem run_middle (c : Dev nD) (l l' : Fin 3) (ch : Fin 4)
    (hl : fwd (total (part A ch l) c) (A.wi c l') (A.wo c l') = part A ch l' c) (ds : List Due)
    (hds : ∀ d ∈ copies (l', ch) ++ ds, 2 + (4 * l.val + ch.val) < height d.2) (Q : FVec F S16x512 .f32 → sProp 𝕄) :
    iprop(rules A K ∗ levAts L lv ∗ Weights A c ∗ Coming c (l, ch) ∗ Ready c (l', ch) ∗ owing c (copies (l', ch) ++ ds))
      ⊢ iprop((Weights A c ∗ Come c (l, ch) ∗ Sent c (l', ch) ∗ owing c ds -∗ Q (part A ch l' c))
          -∗ run c (middle c l l' ch (part A ch l c)) Q) := by
  unfold middle
  simp only [run_bind]
  iintro ⟨#HR, #HL, HW, Hc, Hb, HO⟩ HQ
  iapply (run_gather A K c l ch (copies (l', ch) ++ ds) hds _) $$ [Hc HO]
  · isplitr; · iexact HR
    isplitr; · iexact HL
    isplitl [Hc]; · iexact Hc
    iexact HO
  iintro ⟨Hc, HO⟩
  iapply (run_layer A K c l' ch (target c l' ch) (target_eq c l' ch) _ hl ds Q) $$ [HW Hb HO]
  · isplitr; · iexact HR
    isplitl [HW]; · iexact HW
    isplitl [Hb]; · iexact Hb
    iexact HO
  iintro ⟨HW, Hb, HO⟩
  iapply HQ
  isplitl [HW]; · iexact HW
  isplitl [Hc]; · iexact Hc
  isplitl [Hb]; · iexact Hb
  iexact HO

/-- A chunk of the result. -/
theorem run_last (c : Dev nD) (ch : Fin 4) (Q : PUnit → sProp 𝕄) :
    iprop(rules A K ∗ levAts L lv ∗ Coming c (2, ch) ∗ Out A c ch.val ∗ owing c [])
      ⊢ iprop((Come c (2, ch) ∗ Out A c (ch.val + 1) ∗ owing c [] -∗ Q ⟨⟩) -∗ run c (last ch (part A ch 2 c)) Q) := by
  unfold last
  simp only [run_bind]
  iintro ⟨#HR, #HL, Hc, Ho, HO⟩ HQ
  iapply (run_gather A K c 2 ch [] (fun _ h => absurd h List.not_mem_nil) _) $$ [Hc HO]
  · isplitr; · iexact HR
    isplitr; · iexact HL
    isplitl [Hc]; · iexact Hc
    iexact HO
  iintro ⟨Hc, HO⟩
  unfold Out
  iapply (run_putOut A c ch Q) $$ Ho
  iintro Ho
  iapply HQ
  isplitl [Hc]; · iexact Hc
  isplitl [Ho]; · iexact Ho
  iexact HO

/-! ## The copies have left -/

set_option maxHeartbeats 800000 in
theorem run_settleBlock (c : Dev nD) (b : Block) (Q : PUnit → sProp 𝕄) :
    iprop(rules A K ∗ levAts L lv ∗ Sent c b ∗ Watch c b ∗ owing c [])
      ⊢ iprop((Settled c b ∗ owing c [] -∗ Q ⟨⟩) -∗ run c (settleBlock b.1 b.2) Q) := by
  obtain ⟨l, ch⟩ := b
  unfold settleBlock Sent Watch owing
  simp only [run_bind]
  iintro ⟨#HR, #HL, ⟨Hd0, Hd1, Hd2⟩, ⟨Hp0, Hp1, Hp2⟩, %W, HO⟩ HQ
  iapply (run_settle A K c l ch 1 [] (fun _ h => absurd h List.not_mem_nil) _ _) $$ [Hd1 Hp1 HO]
  · isplitr; · iexact HR
    isplitr; · iexact HL
    isplitl [Hd1]; · iexact Hd1
    isplitl [Hp1]; · iexact Hp1
    iexact HO
  iintro ⟨Hs1, Hz1, HO⟩
  iapply (run_settle A K c l ch 0 [] (fun _ h => absurd h List.not_mem_nil) _ _) $$ [Hd0 Hp0 HO]
  · isplitr; · iexact HR
    isplitr; · iexact HL
    isplitl [Hd0]; · iexact Hd0
    isplitl [Hp0]; · iexact Hp0
    iexact HO
  iintro ⟨Hs0, Hz0, HO⟩
  iapply (run_settle A K c l ch 2 [] (fun _ h => absurd h List.not_mem_nil) _ _) $$ [Hd2 Hp2 HO]
  · isplitr; · iexact HR
    isplitr; · iexact HL
    isplitl [Hd2]; · iexact Hd2
    isplitl [Hp2]; · iexact Hp2
    iexact HO
  iintro ⟨Hs2, Hz2, HO⟩
  iapply HQ
  unfold Settled
  isplitr [HO]
  · isplitl [Hs0 Hs1 Hs2]
    · unfold sendPay
      iapply (hole_of_owns c (stageOf (l, ch)) (low (part A ch l c)))
      iapply (split_stage c (l, ch) (low (part A ch l c))).2
      isplitl [Hs0]; · iexact Hs0
      isplitl [Hs1]; · iexact Hs1
      iexact Hs2
    isplitl [Hz0]; · iexact Hz0
    isplitl [Hz1]; · iexact Hz1
    iexact Hz2
  iexists _; iexact HO

/-- One thing for each block of a list. -/
def each (Φ : Block → sProp 𝕄) : List Block → sProp 𝕄
  | [] => iprop(emp)
  | b :: bs => iprop(Φ b ∗ each Φ bs)

theorem run_settleAll (c : Dev nD) (Q : PUnit → sProp 𝕄) : ∀ bs : List Block,
    iprop(rules A K ∗ levAts L lv ∗ each (Sent c) bs ∗ each (Watch c) bs ∗ owing c [])
      ⊢ iprop((each (Settled c) bs ∗ owing c [] -∗ Q ⟨⟩) -∗ run c (settleAll bs) Q)
  | [] => by
    unfold each settleAll
    iintro ⟨-, -, -, -, HO⟩ HQ
    iapply (run_pure c ⟨⟩ Q)
    iapply HQ
    isplitr; · iempintro
    iexact HO
  | b :: bs => by
    have ih := fun Q => run_settleAll c Q bs
    unfold each settleAll
    simp only [run_bind]
    iintro ⟨#HR, #HL, ⟨Hs, Hss⟩, ⟨Hw, Hws⟩, HO⟩ HQ
    iapply (run_settleBlock A K c b _) $$ [Hs Hw HO]
    · isplitr; · iexact HR
      isplitr; · iexact HL
      isplitl [Hs]; · iexact Hs
      isplitl [Hw]; · iexact Hw
      iexact HO
    iintro ⟨Hb, HO⟩
    iapply (ih Q) $$ [Hss Hws HO]
    · isplitr; · iexact HR
      isplitr; · iexact HL
      isplitl [Hss]; · iexact Hss
      isplitl [Hws]; · iexact Hws
      iexact HO
    iintro ⟨Hbs, HO⟩
    iapply HQ
    isplitr [HO]
    · isplitl [Hb]; · iexact Hb
      iexact Hbs
    iexact HO

end Cert.AllReduce
-- ==== Proof.Body.lean ====
/- The whole body, from what a device holds at the start to what it holds at the end. -/
module

public import proofs.«01_k».proof.Proof.Blocks

@[expose] public section

set_option maxRecDepth 16384

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families -/

theorem over3 (Φ : Fin 3 → sProp 𝕄) : bigSep Finset.univ Φ = each3 Φ :=
  bigSep_univ_eq_bigSepL [0, 1, 2] (by decide) (by decide) Φ

/-- One thing for each chunk. -/
abbrev each4 (Φ : Fin 4 → sProp 𝕄) : sProp 𝕄 := iprop(Φ 0 ∗ Φ 1 ∗ Φ 2 ∗ Φ 3)

theorem over4 (Φ : Fin 4 → sProp 𝕄) : bigSep Finset.univ Φ = each4 Φ :=
  bigSep_univ_eq_bigSepL [0, 1, 2, 3] (by decide) (by decide) Φ

/-- One thing for each block of a layer. -/
def ofLayer (Φ : Block → sProp 𝕄) (l : Fin 3) : sProp 𝕄 := each4 fun ch => Φ (l, ch)

theorem overBlocks (Φ : Block → sProp 𝕄) : bigSep Finset.univ Φ = each3 (ofLayer Φ) := by
  rw [bigSep_univ_prod, over3]
  unfold ofLayer
  exact congrArg₂ _ (over4 _) (congrArg₂ _ (over4 _) (over4 _))

theorem each_eq (Φ : Block → sProp 𝕄) : ∀ bs : List Block, bs.Nodup → each Φ bs = bigSep bs.toFinset Φ
  | [], _ => by rw [List.toFinset_nil, bigSep_empty]; rfl
  | b :: bs, h => by
    rw [List.nodup_cons] at h
    rw [List.toFinset_cons, bigSep_insert (by simpa using h.1), ← each_eq Φ bs h.2]; rfl

theorem each_blocks (Φ : Block → sProp 𝕄) : each Φ blocks = bigSep Finset.univ Φ := by
  rw [each_eq Φ blocks (by decide), show blocks.toFinset = Finset.univ from by decide]

/-- Pairs taken in the other order, and the places counted from the other end. -/
theorem turned (Φ : Block → Fin 3 → sProp 𝕄) :
    (bigSep Finset.univ fun k : Fin 3 => bigSep Finset.univ fun b : Block => Φ b k.rev)
      = bigSep Finset.univ fun b : Block => bigSep Finset.univ fun k : Fin 3 => Φ b k := by
  have e : (bigSep Finset.univ fun b : Block => bigSep Finset.univ fun k : Fin 3 => Φ b k)
      = each3 fun k => bigSep Finset.univ fun b : Block => Φ b k := by
    rw [bigSep_congr fun b _ => over3 (Φ b), bigSep_sep', bigSep_sep']
  rw [e, over3]
  refine BI.Entails.antisymm (show (_ : sProp 𝕄) ⊢ _ from ?_) (show (_ : sProp 𝕄) ⊢ _ from ?_)
  · iintro ⟨H2, H1, H0⟩
    isplitl [H0]; · iexact H0
    isplitl [H1]; · iexact H1
    iexact H2
  · iintro ⟨H0, H1, H2⟩
    isplitl [H2]; · iexact H2
    isplitl [H1]; · iexact H1
    iexact H0

/-! ## Meeting -/

variable (A : Args F) (K : Dev nD × Ctr → ℕ)

/-- A device's own places, as it hands them to the three devices that fill them. -/
theorem handing (c : Dev nD) :
    (bigSep Finset.univ fun b : Block => bigSep Finset.univ fun k : Fin 3 => hole c (placeOf (b, k)) : sProp 𝕄)
      = bigSep Finset.univ fun k : Fin 3 => barPay (peer k c) k := by
  rw [← turned fun b k => hole c (placeOf (b, k))]
  refine bigSep_congr fun k _ => ?_
  unfold barPay
  rw [← peer_symm, Equiv.symm_apply_apply]

/-- The places a device is handed: those it fills. -/
theorem handed (c : Dev nD) :
    (bigSep Finset.univ (barPay c) : sProp 𝕄)
      = bigSep Finset.univ fun b : Block => bigSep Finset.univ fun k : Fin 3 => hole (peer k c) (placeOf (b, k)) := by
  rw [← turned fun b k => hole (peer k c) (placeOf (b, k))]
  rfl

set_option maxHeartbeats 800000 in
theorem run_meet (c : Dev nD) (ds : List Due) (hds : ∀ d ∈ ds, height bar < height d.2) (Q : PUnit → sProp 𝕄) :
    iprop(rules A K ∗ levAts L lv ∗ owing c (greetings ++ ds) ∗ (bigSep Finset.univ fun k : Fin 3 => tok (peer k c) bar k)
        ∗ (bigSep Finset.univ fun b : Block => bigSep Finset.univ fun k : Fin 3 => hole c (placeOf (b, k)))
        ∗ cred (tallyAt (ctr c bar) () 3) ∗ pos c bar)
      ⊢ iprop(((bigSep Finset.univ fun b : Block => bigSep Finset.univ fun k : Fin 3 => hole (peer k c) (placeOf (b, k)))
            ∗ semVal (ctr c bar) 0 ∗ owing c ds -∗ Q ⟨⟩) -∗ run c (meet (greeted c)) Q) := by
  unfold meet owing
  simp only [run_bind]
  rw [handing, over3, over3]
  iintro ⟨#HR, #HL, ⟨%W, HO⟩, ⟨Ht0, Ht1, Ht2⟩, ⟨Hb0, Hb1, Hb2⟩, Hc, Hp⟩ HQ
  iapply (run_signal A K c 0 (greeted c 0) (greeted_eq c 0) ((1, bar) :: (2, bar) :: ds) W _) $$ [HO Ht0 Hb0]
  · isplitr; · iexact HR
    isplitl [HO]; · iexact HO
    isplitl [Ht0]; · iexact Ht0
    iexact Hb0
  iintro HO
  iapply (run_signal A K c 1 (greeted c 1) (greeted_eq c 1) ((2, bar) :: ds) W _) $$ [HO Ht1 Hb1]
  · isplitr; · iexact HR
    isplitl [HO]; · iexact HO
    isplitl [Ht1]; · iexact Ht1
    iexact Hb1
  iintro HO
  iapply (run_signal A K c 2 (greeted c 2) (greeted_eq c 2) ds W _) $$ [HO Ht2 Hb2]
  · isplitr; · iexact HR
    isplitl [HO]; · iexact HO
    isplitl [Ht2]; · iexact Ht2
    iexact Hb2
  iintro HO
  iapply (run_meet_wait A K c ds hds W Q) $$ [HO Hc Hp]
  · isplitr; · iexact HR
    isplitr; · iexact HL
    isplitl [Hc]; · iexact Hc
    isplitl [Hp]; · iexact Hp
    iexact HO
  iintro ⟨Hb, Hz, HO⟩
  ihave Hb := (Entails.of_eq (handed c)) $$ Hb
  iapply HQ
  isplitl [Hb]; · iexact Hb
  isplitl [Hz]; · iexact Hz
  iexists _; iexact HO

/-! ## A whole layer -/

/-- A layer's copies, ahead of what is owed after them. -/
abbrev queue (l : Fin 3) (ds : List Due) : List Due := copies (l, 0) ++ (copies (l, 1) ++ (copies (l, 2) ++ (copies (l, 3) ++ ds)))

theorem copies_above (l l' : Fin 3) (h : l < l') (ch ch' : Fin 4) : ∀ d ∈ copies (l', ch'), 2 + (4 * l.val + ch.val) < height d.2 := by
  intro d hd
  have e : height d.2 = 2 + (4 * l'.val + ch'.val) := by
    simp only [copies, List.mem_cons, List.not_mem_nil, or_false] at hd
    rcases hd with rfl | rfl | rfl <;> rfl
  have : l.val < l'.val := h
  rw [e]; omega

/-- Everything on the list belongs to a layer after `l`. -/
def After (l : Fin 3) (ds : List Due) : Prop := ∀ ch : Fin 4, ∀ d ∈ ds, 2 + (4 * l.val + ch.val) < height d.2

theorem After.nil (l : Fin 3) : After l [] := fun _ _ h => absurd h List.not_mem_nil

theorem After.copies {l l' : Fin 3} (h : l < l') (ch : Fin 4) {ds : List Due} (hs : After l ds) : After l (copies (l', ch) ++ ds) :=
  fun ch' d hd => (List.mem_append.mp hd).elim (copies_above l l' h ch' ch d) (hs ch' d)

theorem After.queue {l l' : Fin 3} (h : l < l') {ds : List Due} (hs : After l ds) : After l (queue l' ds) :=
  ((((hs.copies h 3).copies h 2).copies h 1).copies h 0)

set_option maxHeartbeats 800000 in
/-- The first layer. -/
theorem run_firsts (c : Dev nD) (ds : List Due) {α : Type} (kt : FVec F S16x512 .f32 → FVec F S16x512 .f32 → FVec F S16x512 .f32 → FVec F S16x512 .f32 → Body F α)
    (Q : α → sProp 𝕄) :
    iprop(rules A K ∗ owns (c : Thread nD τ) xM fullShare (A.x c) ∗ Weights A c ∗ ofLayer (Ready c) 0 ∗ owing c (queue 0 ds))
      ⊢ iprop((owns (c : Thread nD τ) xM fullShare (A.x c) ∗ Weights A c ∗ ofLayer (Sent c) 0 ∗ owing c ds
            -∗ run c (kt (part A 0 0 c) (part A 1 0 c) (part A 2 0 c) (part A 3 0 c)) Q)
          -∗ run c (first 0 (target c 0 0) >>= fun p₀ => first 1 (target c 0 1) >>= fun p₁ => first 2 (target c 0 2) >>= fun p₂ =>
              first 3 (target c 0 3) >>= fun p₃ => kt p₀ p₁ p₂ p₃) Q) := by
  unfold ofLayer
  simp only [run_bind]
  iintro ⟨#HR, Hx, HW, ⟨Hb0, Hb1, Hb2, Hb3⟩, HO⟩ HQ
  iapply (run_first A K c 0 (target c 0 0) (target_eq c 0 0) (copies (0, 1) ++ (copies (0, 2) ++ (copies (0, 3) ++ ds))) _) $$ [Hx HW Hb0 HO]
  · isplitr; · iexact HR
    isplitl [Hx]; · iexact Hx
    isplitl [HW]; · iexact HW
    isplitl [Hb0]; · iexact Hb0
    iexact HO
  iintro ⟨Hx, HW, Hb0, HO⟩
  iapply (run_first A K c 1 (target c 0 1) (target_eq c 0 1) (copies (0, 2) ++ (copies (0, 3) ++ ds)) _) $$ [Hx HW Hb1 HO]
  · isplitr; · iexact HR
    isplitl [Hx]; · iexact Hx
    isplitl [HW]; · iexact HW
    isplitl [Hb1]; · iexact Hb1
    iexact HO
  iintro ⟨Hx, HW, Hb1, HO⟩
  iapply (run_first A K c 2 (target c 0 2) (target_eq c 0 2) (copies (0, 3) ++ ds) _) $$ [Hx HW Hb2 HO]
  · isplitr; · iexact HR
    isplitl [Hx]; · iexact Hx
    isplitl [HW]; · iexact HW
    isplitl [Hb2]; · iexact Hb2
    iexact HO
  iintro ⟨Hx, HW, Hb2, HO⟩
  iapply (run_first A K c 3 (target c 0 3) (target_eq c 0 3) ds _) $$ [Hx HW Hb3 HO]
  · isplitr; · iexact HR
    isplitl [Hx]; · iexact Hx
    isplitl [HW]; · iexact HW
    isplitl [Hb3]; · iexact Hb3
    iexact HO
  iintro ⟨Hx, HW, Hb3, HO⟩
  iapply HQ
  isplitl [Hx]; · iexact Hx
  isplitl [HW]; · iexact HW
  isplitr [HO]
  · isplitl [Hb0]; · iexact Hb0
    isplitl [Hb1]; · iexact Hb1
    isplitl [Hb2]; · iexact Hb2
    iexact Hb3
  iexact HO

set_option maxHeartbeats 800000 in
/-- A later layer. -/
theorem run_middles (c : Dev nD) (l l' : Fin 3) (hlt : l < l')
    (hl : ∀ ch, fwd (total (part A ch l) c) (A.wi c l') (A.wo c l') = part A ch l' c) (ds : List Due) (hds : After l ds)
    {α : Type} (kt : FVec F S16x512 .f32 → FVec F S16x512 .f32 → FVec F S16x512 .f32 → FVec F S16x512 .f32 → Body F α)
    (Q : α → sProp 𝕄) :
    iprop(rules A K ∗ levAts L lv ∗ Weights A c ∗ ofLayer (Coming c) l ∗ ofLayer (Ready c) l' ∗ owing c (queue l' ds))
      ⊢ iprop((Weights A c ∗ ofLayer (Come c) l ∗ ofLayer (Sent c) l' ∗ owing c ds
            -∗ run c (kt (part A 0 l' c) (part A 1 l' c) (part A 2 l' c) (part A 3 l' c)) Q)
          -∗ run c (middle c l l' 0 (part A 0 l c) >>= fun p₀ => middle c l l' 1 (part A 1 l c) >>= fun p₁ =>
              middle c l l' 2 (part A 2 l c) >>= fun p₂ => middle c l l' 3 (part A 3 l c) >>= fun p₃ => kt p₀ p₁ p₂ p₃) Q) := by
  unfold ofLayer
  simp only [run_bind]
  iintro ⟨#HR, #HL, HW, ⟨Hc0, Hc1, Hc2, Hc3⟩, ⟨Hb0, Hb1, Hb2, Hb3⟩, HO⟩ HQ
  have h3 := hds.copies hlt 3
  have h2 := h3.copies hlt 2
  have h1 := h2.copies hlt 1
  have h0 := h1.copies hlt 0
  iapply (run_middle A K c l l' 0 (hl 0) _ (h0 0) _) $$ [HW Hc0 Hb0 HO]
  · isplitr; · iexact HR
    isplitr; · iexact HL
    isplitl [HW]; · iexact HW
    isplitl [Hc0]; · iexact Hc0
    isplitl [Hb0]; · iexact Hb0
    iexact HO
  iintro ⟨HW, Hc0, Hb0, HO⟩
  iapply (run_middle A K c l l' 1 (hl 1) _ (h1 1) _) $$ [HW Hc1 Hb1 HO]
  · isplitr; · iexact HR
    isplitr; · iexact HL
    isplitl [HW]; · iexact HW
    isplitl [Hc1]; · iexact Hc1
    isplitl [Hb1]; · iexact Hb1
    iexact HO
  iintro ⟨HW, Hc1, Hb1, HO⟩
  iapply (run_middle A K c l l' 2 (hl 2) _ (h2 2) _) $$ [HW Hc2 Hb2 HO]
  · isplitr; · iexact HR
    isplitr; · iexact HL
    isplitl [HW]; · iexact HW
    isplitl [Hc2]; · iexact Hc2
    isplitl [Hb2]; · iexact Hb2
    iexact HO
  iintro ⟨HW, Hc2, Hb2, HO⟩
  iapply (run_middle A K c l l' 3 (hl 3) _ (h3 3) _) $$ [HW Hc3 Hb3 HO]
  · isplitr; · iexact HR
    isplitr; · iexact HL
    isplitl [HW]; · iexact HW
    isplitl [Hc3]; · iexact Hc3
    isplitl [Hb3]; · iexact Hb3
    iexact HO
  iintro ⟨HW, Hc3, Hb3, HO⟩
  iapply HQ
  isplitl [HW]; · iexact HW
  isplitl [Hc0 Hc1 Hc2 Hc3]
  · isplitl [Hc0]; · iexact Hc0
    isplitl [Hc1]; · iexact Hc1
    isplitl [Hc2]; · iexact Hc2
    iexact Hc3
  isplitr [HO]
  · isplitl [Hb0]; · iexact Hb0
    isplitl [Hb1]; · iexact Hb1
    isplitl [Hb2]; · iexact Hb2
    iexact Hb3
  iexact HO

set_option maxHeartbeats 800000 in
/-- The result. -/
theorem run_lasts (c : Dev nD) {α : Type} (kt : Body F α) (Q : α → sProp 𝕄) :
    iprop(rules A K ∗ levAts L lv ∗ ofLayer (Coming c) 2 ∗ Out A c 0 ∗ owing c [])
      ⊢ iprop((ofLayer (Come c) 2 ∗ Out A c 4 ∗ owing c [] -∗ run c kt Q)
          -∗ run c (last 0 (part A 0 2 c) >>= fun _ => last 1 (part A 1 2 c) >>= fun _ =>
              last 2 (part A 2 2 c) >>= fun _ => last 3 (part A 3 2 c) >>= fun _ => kt) Q) := by
  unfold ofLayer
  simp only [run_bind]
  iintro ⟨#HR, #HL, ⟨Hc0, Hc1, Hc2, Hc3⟩, Ho, HO⟩ HQ
  iapply (run_last A K c 0 _) $$ [Hc0 Ho HO]
  · isplitr; · iexact HR
    isplitr; · iexact HL
    isplitl [Hc0]; · iexact Hc0
    isplitl [Ho]; · iexact Ho
    iexact HO
  iintro ⟨Hc0, Ho, HO⟩
  iapply (run_last A K c 1 _) $$ [Hc1 Ho HO]
  · isplitr; · iexact HR
    isplitr; · iexact HL
    isplitl [Hc1]; · iexact Hc1
    isplitl [Ho]; · iexact Ho
    iexact HO
  iintro ⟨Hc1, Ho, HO⟩
  iapply (run_last A K c 2 _) $$ [Hc2 Ho HO]
  · isplitr; · iexact HR
    isplitr; · iexact HL
    isplitl [Hc2]; · iexact Hc2
    isplitl [Ho]; · iexact Ho
    iexact HO
  iintro ⟨Hc2, Ho, HO⟩
  iapply (run_last A K c 3 _) $$ [Hc3 Ho HO]
  · isplitr; · iexact HR
    isplitr; · iexact HL
    isplitl [Hc3]; · iexact Hc3
    isplitl [Ho]; · iexact Ho
    iexact HO
  iintro ⟨Hc3, Ho, HO⟩
  iapply HQ
  isplitr [Ho HO]
  · isplitl [Hc0]; · iexact Hc0
    isplitl [Hc1]; · iexact Hc1
    isplitl [Hc2]; · iexact Hc2
    iexact Hc3
  isplitl [Ho]; · iexact Ho
  iexact HO

/-! ## The body -/

/-- What a device has for a block before it has met the others. -/
def Held (c : Dev nD) (b : Block) : sProp 𝕄 :=
  iprop(hole c (stageOf b) ∗ each3 fun k => iprop(tok c (snd (b, k)) 0 ∗ tok (peer k c) (rcv (b, k)) 0))

theorem ready_of_held (c : Dev nD) (b : Block) :
    iprop(Held c b ∗ bigSep Finset.univ fun k : Fin 3 => hole (peer k c) (placeOf (b, k))) ⊢ (Ready c b : sProp 𝕄) := by
  rw [over3]
  unfold Held Ready
  iintro ⟨⟨Hs, H0, H1, H2⟩, P0, P1, P2⟩
  isplitl [Hs]; · iexact Hs
  isplitl [H0 P0]
  · isplitl [P0]; · iexact P0
    iexact H0
  isplitl [H1 P1]
  · isplitl [P1]; · iexact P1
    iexact H1
  isplitl [P2]; · iexact P2
  iexact H2

theorem all_ready (c : Dev nD) :
    iprop(bigSep Finset.univ (Held c) ∗ bigSep Finset.univ fun b : Block => bigSep Finset.univ fun k : Fin 3 => hole (peer k c) (placeOf (b, k)))
      ⊢ (bigSep Finset.univ (Ready c) : sProp 𝕄) := by
  rw [← bigSep_sep']
  exact bigSep_mono fun b _ => ready_of_held c b

/-- All duties of a device, in the order in which it does them. -/
abbrev duties : List Due := greetings ++ queue 0 (queue 1 (queue 2 []))

theorem duties_above (d : Due) (hd : d ∈ queue 0 (queue 1 (queue 2 []))) : height bar < height d.2 := by
  have h : ∀ d ∈ queue 0 (queue 1 (queue 2 [])), ∃ s : Slot, d.2 = rcv s := by
    intro d hd
    simp only [queue, copies, List.cons_append, List.nil_append, List.append_nil, List.mem_cons, List.not_mem_nil, or_false] at hd
    rcases hd with h | h | h | h | h | h | h | h | h | h | h | h | h | h | h | h | h | h | h | h | h | h | h | h | h | h | h | h | h | h | h | h | h | h | h | h <;>
      exact ⟨_, by rw [h]⟩
  obtain ⟨s, e⟩ := h d hd
  rw [e]
  show 1 < 2 + (4 * s.1.1.val + s.1.2.val)
  omega

/-- What a device holds when the body starts, -/
def Start (c : Dev nD) : sProp 𝕄 :=
  iprop(owing c duties ∗ (bigSep Finset.univ fun k : Fin 3 => tok (peer k c) bar k) ∗ cred (tallyAt (ctr c bar) () 3) ∗ pos c bar
    ∗ (bigSep Finset.univ fun b : Block => bigSep Finset.univ fun k : Fin 3 => hole c (placeOf (b, k)))
    ∗ bigSep Finset.univ (Held c) ∗ bigSep Finset.univ (Watch c) ∗ bigSep Finset.univ (Coming c)
    ∗ owns (c : Thread nD τ) xM fullShare (A.x c) ∗ Weights A c ∗ Out A c 0)

/-- and when it ends. -/
def Finish (c : Dev nD) : sProp 𝕄 :=
  iprop(owing c [] ∗ semVal (ctr c bar) 0 ∗ bigSep Finset.univ (Settled c) ∗ bigSep Finset.univ (Come c)
    ∗ owns (c : Thread nD τ) xM fullShare (A.x c) ∗ Weights A c ∗ Out A c 4)

set_option maxHeartbeats 1600000 in
theorem run_program (c : Dev nD) (Q : PUnit → sProp 𝕄) :
    iprop(rules A K ∗ levAts L lv ∗ Start A c) ⊢ iprop((Finish A c -∗ Q ⟨⟩) -∗ run c program Q) := by
  have hd : run c program Q = run c (do
      meet (greeted c)
      let p₀ ← first 0 (target c 0 0)
      let p₁ ← first 1 (target c 0 1)
      let p₂ ← first 2 (target c 0 2)
      let p₃ ← first 3 (target c 0 3)
      let q₀ ← middle c 0 1 0 p₀
      let q₁ ← middle c 0 1 1 p₁
      let q₂ ← middle c 0 1 2 p₂
      let q₃ ← middle c 0 1 3 p₃
      let r₀ ← middle c 1 2 0 q₀
      let r₁ ← middle c 1 2 1 q₁
      let r₂ ← middle c 1 2 2 q₂
      let r₃ ← middle c 1 2 3 q₃
      last 0 r₀
      last 1 r₁
      last 2 r₂
      last 3 r₃
      settleAll blocks) Q := by
    unfold program run
    simp only [Prog.lift, Prog.bind_op, Prog.bind_ret]
    rw [wp_deviceId]
  rw [hd, run_bind]
  unfold Start Finish
  iintro ⟨#HR, #HL, HO, Ht, Hc, Hp, Hpl, Hh, Hw, Hcm, Hx, HW, Ho⟩ HQ
  iapply (run_meet A K c (queue 0 (queue 1 (queue 2 []))) duties_above _) $$ [HO Ht Hc Hp Hpl]
  · isplitr; · iexact HR
    isplitr; · iexact HL
    isplitl [HO]; · iexact HO
    isplitl [Ht]; · iexact Ht
    isplitl [Hpl]; · iexact Hpl
    isplitl [Hc]; · iexact Hc
    iexact Hp
  iintro ⟨Hpl, Hz, HO⟩
  ihave Hr := (all_ready (F := F) c) $$ [Hh Hpl]
  · isplitl [Hh]; · iexact Hh
    iexact Hpl
  ihave Hr := (Entails.of_eq (overBlocks (Ready c))) $$ Hr
  icases Hr with ⟨Hr0, Hr1, Hr2⟩
  ihave Hcm := (Entails.of_eq (overBlocks (Coming c))) $$ Hcm
  icases Hcm with ⟨Hc0, Hc1, Hc2⟩
  iapply (run_firsts A K c (queue 1 (queue 2 [])) _ Q) $$ [Hx HW Hr0 HO]
  · isplitr; · iexact HR
    isplitl [Hx]; · iexact Hx
    isplitl [HW]; · iexact HW
    isplitl [Hr0]; · iexact Hr0
    iexact HO
  iintro ⟨Hx, HW, Hs0, HO⟩
  iapply (run_middles A K c 0 1 (by decide) (fun ch => rfl) (queue 2 []) (After.queue (l := 0) (l' := 2) (by decide) (After.nil 0)) _ Q) $$ [HW Hc0 Hr1 HO]
  · isplitr; · iexact HR
    isplitr; · iexact HL
    isplitl [HW]; · iexact HW
    isplitl [Hc0]; · iexact Hc0
    isplitl [Hr1]; · iexact Hr1
    iexact HO
  iintro ⟨HW, Hc0, Hs1, HO⟩
  iapply (run_middles A K c 1 2 (by decide) (fun ch => rfl) [] (After.nil 1) _ Q) $$ [HW Hc1 Hr2 HO]
  · isplitr; · iexact HR
    isplitr; · iexact HL
    isplitl [HW]; · iexact HW
    isplitl [Hc1]; · iexact Hc1
    isplitl [Hr2]; · iexact Hr2
    iexact HO
  iintro ⟨HW, Hc1, Hs2, HO⟩
  iapply (run_lasts A K c _ Q) $$ [Hc2 Ho HO]
  · isplitr; · iexact HR
    isplitr; · iexact HL
    isplitl [Hc2]; · iexact Hc2
    isplitl [Ho]; · iexact Ho
    iexact HO
  iintro ⟨Hc2, Ho, HO⟩
  ihave Hs := (Entails.of_eq ((each_blocks (Sent c)).trans (overBlocks (Sent c))).symm) $$ [Hs0 Hs1 Hs2]
  · isplitl [Hs0]; · iexact Hs0
    isplitl [Hs1]; · iexact Hs1
    iexact Hs2
  ihave Hw := (Entails.of_eq (each_blocks (Watch c)).symm) $$ Hw
  iapply (run_settleAll A K c Q blocks) $$ [Hs Hw HO]
  · isplitr; · iexact HR
    isplitr; · iexact HL
    isplitl [Hs]; · iexact Hs
    isplitl [Hw]; · iexact Hw
    iexact HO
  iintro ⟨Hs, HO⟩
  ihave Hs := (Entails.of_eq (each_blocks (Settled c))) $$ Hs
  iapply HQ
  isplitl [HO]; · iexact HO
  isplitl [Hz]; · iexact Hz
  isplitl [Hs]; · iexact Hs
  isplitl [Hc0 Hc1 Hc2]
  · rw [overBlocks]
    isplitl [Hc0]; · iexact Hc0
    isplitl [Hc1]; · iexact Hc1
    iexact Hc2
  isplitl [Hx]; · iexact Hx
  isplitl [HW]; · iexact HW
  iexact Ho

end Cert.AllReduce
-- ==== Proof.Slots.lean ====
/- The two scratch buffers as their places: taken apart when the body starts, put together when it ends. -/
module

public import proofs.«01_k».proof.Proof.Body

@[expose] public section

set_option maxRecDepth 16384

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Any buffer cut into parts -/

/-- A whole buffer, at any contents, is its parts, each at any contents. -/
theorem whole_parts {T : Type} [Fintype T] [DecidableEq T] (ℓ : Loc nD τ sig) (K : T → Finset (Idx ℓ)) (f₀ : Buf (Elt F) ℓ)
    (hd : ∀ t t', t ≠ t' → Disjoint (K t) (K t')) (hc : ∀ i, ∃ t, i ∈ K t) :
    (iprop(∃ f : Buf (Elt F) ℓ, ℓ ↦{fullShare} f) : sProp 𝕄)
      ⊣⊢ bigSep Finset.univ fun t => iprop(∃ f : Buf (Elt F) ℓ, ℓ ↦[K t]{fullShare} f) := by
  have hu : (Finset.univ : Finset (Idx ℓ)) = Finset.univ.biUnion K := by
    ext i
    simp only [Finset.mem_univ, Finset.mem_biUnion, true_and, true_iff]
    exact hc i
  constructor
  · iintro ⟨%f, H⟩
    have h1 : (ℓ ↦{fullShare} f : sProp 𝕄) ⊢ bigSep Finset.univ fun t => iprop(∃ f : Buf (Elt F) ℓ, ℓ ↦[K t]{fullShare} f) := by
      rw [hu, pointsTo_biUnion Finset.univ K fun t _ t' _ h => hd t t' h]
      refine bigSep_mono fun t _ => show (_ : sProp 𝕄) ⊢ _ from ?_
      iintro H; iexists f; iexact H
    iapply h1; iexact H
  · have : Nonempty (Buf (Elt F) ℓ) := ⟨f₀⟩
    iintro H
    ihave H := (bigSep_exists_pi Finset.univ fun (t : T) (f : Buf (Elt F) ℓ) => (ℓ ↦[K t]{fullShare} f : sProp 𝕄)) $$ H
    icases H with ⟨%fs, H⟩
    ihave H := (pointsTo_biUnion_join Finset.univ K fs f₀ fun t _ t' _ h => hd t t' h) $$ H
    icases H with ⟨%g, -, H⟩
    rw [← hu]
    iexists g; iexact H

/-! ## The staging buffer -/

theorem mem_stage (l : Fin 3) (ch : Fin 4) (i : S3x4x16x512.Idx) :
    i ∈ (stageV l ch).view.set ↔ (i 0).val = l.val ∧ (i 1).val = ch.val := by
  rw [stage_set]
  constructor
  · intro h
    obtain ⟨j, -, rfl⟩ := Finset.mem_map.mp h
    have h0 : (j 0).val < 1 := (j 0).isLt
    have h1 : (j 1).val < 1 := (j 1).isLt
    constructor
    · show l.val + 1 * (j 0).val = l.val; omega
    · show ch.val + 1 * (j 1).val = ch.val; omega
  · rintro ⟨h0, h1⟩
    refine Finset.mem_map.mpr ⟨fun a => match a with
      | 0 => ⟨0, Nat.one_pos⟩
      | 1 => ⟨0, Nat.one_pos⟩
      | 2 => i 2
      | 3 => i 3, Finset.mem_univ _, ?_⟩
    funext a
    apply Fin.ext
    match a with
    | 0 => show l.val + 1 * 0 = (i 0).val; omega
    | 1 => show ch.val + 1 * 0 = (i 1).val; omega
    | 2 => show 0 + 1 * (i 2).val = (i 2).val; omega
    | 3 => show 0 + 1 * (i 3).val = (i 3).val; omega

theorem stage_parts (c : Dev nD) :
    (iprop(∃ f : Buf (Elt F) ((c : Thread nD τ).loc cc0_scratch0), ((c : Thread nD τ).loc cc0_scratch0) ↦{fullShare} f) : sProp 𝕄)
      ⊣⊢ bigSep Finset.univ fun b : Block => hole c (stageOf b) := by
  refine whole_parts ((c : Thread nD τ).loc cc0_scratch0) (fun b : Block => (stageOf b).view.set) (fun _ => Classical.arbitrary _) ?_ ?_
  · intro b b' h
    rw [Finset.disjoint_left]
    intro i hi hi'
    obtain ⟨h0, h1⟩ := (mem_stage b.1 b.2 i).mp hi
    obtain ⟨h0', h1'⟩ := (mem_stage b'.1 b'.2 i).mp hi'
    exact h (Prod.ext (Fin.ext (h0.symm.trans h0')) (Fin.ext (h1.symm.trans h1')))
  · intro i
    exact ⟨(i 0, i 1), (mem_stage _ _ i).mpr ⟨rfl, rfl⟩⟩

/-! ## The landing buffer -/

theorem mem_place (l : Fin 3) (ch : Fin 4) (k : Fin 3) (i : S3x4x3x16x512.Idx) :
    i ∈ (commV l ch k).view.set ↔ (i 0).val = l.val ∧ (i 1).val = ch.val ∧ (i 2).val = k.val := by
  rw [place_set]
  constructor
  · intro h
    obtain ⟨j, -, rfl⟩ := Finset.mem_map.mp h
    have h0 : (j 0).val < 1 := (j 0).isLt
    have h1 : (j 1).val < 1 := (j 1).isLt
    have h2 : (j 2).val < 1 := (j 2).isLt
    refine ⟨?_, ?_, ?_⟩
    · show l.val + 1 * (j 0).val = l.val; omega
    · show ch.val + 1 * (j 1).val = ch.val; omega
    · show k.val + 1 * (j 2).val = k.val; omega
  · rintro ⟨h0, h1, h2⟩
    refine Finset.mem_map.mpr ⟨fun a => match a with
      | 0 => ⟨0, Nat.one_pos⟩
      | 1 => ⟨0, Nat.one_pos⟩
      | 2 => ⟨0, Nat.one_pos⟩
      | 3 => i 3
      | 4 => i 4, Finset.mem_univ _, ?_⟩
    funext a
    apply Fin.ext
    match a with
    | 0 => show l.val + 1 * 0 = (i 0).val; omega
    | 1 => show ch.val + 1 * 0 = (i 1).val; omega
    | 2 => show k.val + 1 * 0 = (i 2).val; omega
    | 3 => show 0 + 1 * (i 3).val = (i 3).val; omega
    | 4 => show 0 + 1 * (i 4).val = (i 4).val; omega

theorem place_parts (c : Dev nD) :
    (iprop(∃ f : Buf (Elt F) ((c : Thread nD τ).loc cc0_scratch1), ((c : Thread nD τ).loc cc0_scratch1) ↦{fullShare} f) : sProp 𝕄)
      ⊣⊢ bigSep Finset.univ fun b : Block => bigSep Finset.univ fun k : Fin 3 => hole c (placeOf (b, k)) := by
  rw [← bigSep_univ_prod fun s : Slot => (hole c (placeOf s) : sProp 𝕄)]
  refine whole_parts ((c : Thread nD τ).loc cc0_scratch1) (fun s : Slot => (placeOf s).view.set) (fun _ => Classical.arbitrary _) ?_ ?_
  · intro s s' h
    rw [Finset.disjoint_left]
    intro i hi hi'
    obtain ⟨h0, h1, h2⟩ := (mem_place s.1.1 s.1.2 s.2 i).mp hi
    obtain ⟨h0', h1', h2'⟩ := (mem_place s'.1.1 s'.1.2 s'.2 i).mp hi'
    exact h (Prod.ext (Prod.ext (Fin.ext (h0.symm.trans h0')) (Fin.ext (h1.symm.trans h1'))) (Fin.ext (h2.symm.trans h2')))
  · intro i
    exact ⟨((i 0, i 1), i 2), (mem_place _ _ _ i).mpr ⟨rfl, rfl, rfl⟩⟩

/-! ## The transfer counters -/

/-- All of a device's transfer counters at zero. -/
def zeros (c : Dev nD) : sProp 𝕄 := bigSep Finset.univ fun o : Slot ⊕ Slot => semVal (ctr c (.inr o)) 0

/-- What the blocks leave: the two buffers and the counters. -/
theorem leave (c : Dev nD) :
    iprop(bigSep Finset.univ (Settled c) ∗ bigSep Finset.univ (Come c))
      ⊢ (iprop((∃ f : Buf (Elt F) ((c : Thread nD τ).loc cc0_scratch0), ((c : Thread nD τ).loc cc0_scratch0) ↦{fullShare} f)
          ∗ (∃ f : Buf (Elt F) ((c : Thread nD τ).loc cc0_scratch1), ((c : Thread nD τ).loc cc0_scratch1) ↦{fullShare} f)
          ∗ zeros c) : sProp 𝕄) := by
  have hz : (zeros c : sProp 𝕄) = iprop((bigSep Finset.univ fun b : Block => bigSep Finset.univ fun k : Fin 3 => semVal (ctr c (snd (b, k))) 0)
      ∗ bigSep Finset.univ fun b : Block => bigSep Finset.univ fun k : Fin 3 => semVal (ctr c (rcv (b, k))) 0) := by
    unfold zeros
    rw [bigSep_univ_sum, ← bigSep_univ_prod fun s : Slot => (semVal (ctr c (snd s)) 0 : sProp 𝕄),
      ← bigSep_univ_prod fun s : Slot => (semVal (ctr c (rcv s)) 0 : sProp 𝕄)]
    rfl
  have hs : (bigSep Finset.univ (Settled c) : sProp 𝕄) = iprop((bigSep Finset.univ fun b : Block => hole c (stageOf b))
      ∗ bigSep Finset.univ fun b : Block => bigSep Finset.univ fun k : Fin 3 => semVal (ctr c (snd (b, k))) 0) := by
    rw [← bigSep_sep']
    exact bigSep_congr fun b _ => by unfold Settled; rw [over3]
  have hc : (bigSep Finset.univ (Come c) : sProp 𝕄) = iprop((bigSep Finset.univ fun b : Block => bigSep Finset.univ fun k : Fin 3 => hole c (placeOf (b, k)))
      ∗ bigSep Finset.univ fun b : Block => bigSep Finset.univ fun k : Fin 3 => semVal (ctr c (rcv (b, k))) 0) := by
    rw [← bigSep_sep']
    exact bigSep_congr fun b _ => by unfold Come; rw [← bigSep_sep', over3]
  rw [hz, hs, hc]
  iintro ⟨⟨Hs, Hz⟩, Hp, Hy⟩
  isplitl [Hs]; · iapply (stage_parts c).2; iexact Hs
  isplitl [Hp]; · iapply (place_parts c).2; iexact Hp
  isplitl [Hz]; · iexact Hz
  iexact Hy

end Cert.AllReduce
-- ==== Proof.Ghost.lean ====
/- What the devices hold at launch, and how it is dealt: the counters' rules, the rights to do duties, the credit. -/
module

public import proofs.«01_k».proof.Proof.Slots

@[expose] public section

set_option maxRecDepth 16384

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## All counters -/

theorem ctr_injective : Function.Injective fun x : Dev nD × Ctr => ctr x.1 x.2 := by
  rintro ⟨c, j⟩ ⟨c', j'⟩ h
  have h1 : c = c' := congrArg (fun g : GSem nD τ sig => g.1.1) h
  have h2 : j = j' := semOf_injective (congrArg Prod.snd h)
  rw [h1, h2]

def allCtrs : Finset (GSem nD τ sig) := Finset.univ.map ⟨fun x : Dev nD × Ctr => ctr x.1 x.2, ctr_injective⟩

/-- A thing for each of a device's counters is one for the barrier, one for each copy sent, one for each received. -/
theorem overCtrs (Φ : Ctr → sProp 𝕄) :
    bigSep Finset.univ Φ = iprop(Φ bar ∗ (bigSep Finset.univ fun b : Block => each3 fun k => Φ (snd (b, k)))
      ∗ bigSep Finset.univ fun b : Block => each3 fun k => Φ (rcv (b, k))) := by
  rw [bigSep_univ_sum, bigSep_univ_sum, bigSep_univ_prod (fun s : Slot => Φ (snd s)), bigSep_univ_prod (fun s : Slot => Φ (rcv s)),
    show (Finset.univ : Finset Unit) = {()} from rfl, bigSep_singleton,
    bigSep_congr (s := Finset.univ) (fun (b : Block) _ => over3 fun k => Φ (snd (b, k))),
    bigSep_congr (s := Finset.univ) (fun (b : Block) _ => over3 fun k => Φ (rcv (b, k)))]
  rfl

/-! ## The rights -/

/-- A device's duties, as its counters receive them: three greetings, and one for each transfer counter. -/
abbrev Right : Type := Fin 3 ⊕ (Slot ⊕ Slot)

abbrev duty : Right → Ctr × Fin 3
  | .inl k => (bar, k)
  | .inr o => (.inr o, 0)

theorem duty_injective : Function.Injective duty := by
  rintro (k | o) (k' | o') h
  · exact congrArg Sum.inl (congrArg Prod.snd h)
  · exact absurd (congrArg Prod.fst h) Sum.inl_ne_inr
  · exact absurd (congrArg Prod.fst h) Sum.inr_ne_inl
  · exact congrArg Sum.inr (Sum.inr_injective (congrArg Prod.fst h))

abbrev rightOf (x : Dev nD × Right) : GSem nD τ sig × ℕ × Fin 3 := (ctr x.1 (duty x.2).1, 0, (duty x.2).2)

theorem rightOf_injective : Function.Injective rightOf := by
  rintro ⟨c, t⟩ ⟨c', t'⟩ h
  have h1 := ctr_injective (a₁ := (c, (duty t).1)) (a₂ := (c', (duty t').1)) (congrArg Prod.fst h)
  have h2 : (duty t).2 = (duty t').2 := congrArg (fun x : GSem nD τ sig × ℕ × Fin 3 => x.2.2) h
  have h3 : t = t' := duty_injective (Prod.ext (congrArg Prod.snd h1) h2)
  have h4 : c = c' := congrArg Prod.fst h1
  rw [h4, h3]

def allRights : Finset (GSem nD τ sig × ℕ × Fin 3) := Finset.univ.map ⟨rightOf, rightOf_injective⟩

/-- The rights to raise a device's own counters, -/
def rights (c : Dev nD) : sProp 𝕄 := bigSep Finset.univ fun t : Right => tok c (duty t).1 (duty t).2

/-- whose counter a right of a device is for, -/
def aim : Right → (Dev nD ≃ Dev nD)
  | .inl k => peer k
  | .inr (.inl _) => Equiv.refl _
  | .inr (.inr s) => peer s.2

/-- and the rights a device exercises. -/
def mine (c : Dev nD) : sProp 𝕄 := bigSep Finset.univ fun t : Right => tok (aim t c) (duty t).1 (duty t).2

theorem dealt : (bigSep Finset.univ fun c : Dev nD => (rights c : sProp 𝕄)) = bigSep Finset.univ fun c : Dev nD => mine c := by
  unfold rights mine
  rw [← bigSep_univ_prod fun x : Dev nD × Right => (tok x.1 (duty x.2).1 (duty x.2).2 : sProp 𝕄),
    ← bigSep_univ_prod fun x : Dev nD × Right => (tok (aim x.2 x.1) (duty x.2).1 (duty x.2).2 : sProp 𝕄),
    bigSep_univ_equiv (Equiv.prodCongrLeft aim) fun x : Dev nD × Right => (tok x.1 (duty x.2).1 (duty x.2).2 : sProp 𝕄)]
  rfl

theorem mine_eq (c : Dev nD) :
    (mine c : sProp 𝕄) = iprop((bigSep Finset.univ fun k : Fin 3 => tok (peer k c) bar k)
      ∗ (bigSep Finset.univ fun b : Block => each3 fun k => tok c (snd (b, k)) 0)
      ∗ bigSep Finset.univ fun b : Block => each3 fun k => tok (peer k c) (rcv (b, k)) 0) := by
  have e : (mine c : sProp 𝕄) = iprop((bigSep Finset.univ fun k : Fin 3 => tok (peer k c) bar k)
      ∗ (bigSep Finset.univ fun s : Slot => tok c (snd s) 0) ∗ bigSep Finset.univ fun s : Slot => tok (peer s.2 c) (rcv s) 0) := by
    unfold mine
    rw [bigSep_univ_sum, bigSep_univ_sum]
    rfl
  rw [e, bigSep_univ_prod (fun s : Slot => (tok c (snd s) 0 : sProp 𝕄)),
    bigSep_univ_prod (fun s : Slot => (tok (peer s.2 c) (rcv s) 0 : sProp 𝕄)),
    bigSep_congr (s := Finset.univ) (fun (b : Block) _ => over3 fun k => (tok c (snd (b, k)) 0 : sProp 𝕄)),
    bigSep_congr (s := Finset.univ) (fun (b : Block) _ => over3 fun k => (tok (peer k c) (rcv (b, k)) 0 : sProp 𝕄))]

variable (A : Args F)

/-! ## The launch element -/

def u₀ : UU :=
  (initOf (Pipeline.cells cfgs cellOf_inj) (Pipeline.launchToks cfgs cellOf_inj), initOf allCtrs allRights)

/-- A device's counters with their standings, before the rules are laid down, -/
def G (c : Dev nD) : sProp 𝕄 :=
  iprop((bigSep Finset.univ fun j : Ctr => roundState ER (plan A) (ctr c j) 0)
    ∗ (bigSep Finset.univ fun j : Ctr => pos c j) ∗ (bigSep Finset.univ fun j : Ctr => reached ER (ctr c j) 0) ∗ rights c)

/-- and after. -/
def G' (c : Dev nD) : sProp 𝕄 :=
  iprop(∃ K, rules A K ∗ (bigSep Finset.univ fun j : Ctr => pos c j) ∗ mine c)

theorem fund_all : BI.own (ER (initOf allCtrs allRights)) ⊢ (|==> bigSep Finset.univ (G A) : sProp 𝕄) := by
  have hX (Φ : GSem nD τ sig → sProp 𝕄) : bigSep allCtrs Φ = bigSep Finset.univ fun c : Dev nD => bigSep Finset.univ fun j : Ctr => Φ (ctr c j) := by
    unfold allCtrs; rw [bigSep_map, bigSep_univ_prod]; rfl
  have hT : bigSep allRights (fun x => (dutyTok ER x.1 x.2.1 x.2.2 : sProp 𝕄)) = bigSep Finset.univ fun c : Dev nD => rights c := by
    unfold allRights; rw [bigSep_map, bigSep_univ_prod]; rfl
  iintro H
  imod (Rounds.fund ER (plan A) allCtrs allRights) $$ H with ⟨Hs, Hr, Hp, Ht⟩
  imodintro
  ihave Hs := (Entails.of_eq (hX fun g => roundState ER (plan A) g 0)) $$ Hs
  ihave Hp := (Entails.of_eq (hX fun g => atPos ER g 0 ∅ 0)) $$ Hp
  ihave Hr := (Entails.of_eq (hX fun g => reached ER g 0)) $$ Hr
  ihave Ht := (Entails.of_eq hT) $$ Ht
  unfold G
  rw [bigSep_sep', bigSep_sep', bigSep_sep']
  isplitl [Hs]; · iexact Hs
  isplitl [Hp]; · iexact Hp
  isplitl [Hr]; · iexact Hr
  iexact Ht

/-! ## The rules laid down -/

/-- The kernel's own semaphores. -/
abbrev osem (o : Slot ⊕ Slot) : SemLoc sig := semOf (.inr o)

theorem barrier0_eq (c : Dev nD) : (unscopedSems0 c : sProp 𝕄) = semVal (ctr c bar) 0 := by
  unfold unscopedSems0; rw [bigSep_eq_bigSepL_of_eq [SemLoc.reg barS] (by decide) (by decide)]; rfl

theorem zeros_eq (c : Dev nD) : (Pipeline.ownSems0 (Ix := Unit) (Name := ℕ) (U := UU) (Lvl := ℕ) (Val := Elt F) (τ := τ) osem c : sProp 𝕄) = zeros c := rfl

theorem lay (c : Dev nD) :
    iprop(Pipeline.ownSems0 (Ix := Unit) (Name := ℕ) (U := UU) (Lvl := ℕ) (Val := Elt F) (τ := τ) osem c ∗ unscopedSems0 c ∗ G A c)
      ⊢ |={Set.univ}=> iprop((bigSep Finset.univ fun j : Ctr => iprop(∃ κ : ℕ, cellInv ER (plan A) κ (ctr c j)))
          ∗ (bigSep Finset.univ fun j : Ctr => reached ER (ctr c j) 0) ∗ (bigSep Finset.univ fun j : Ctr => pos c j) ∗ rights c) := by
  have hv : (bigSep Finset.univ fun j : Ctr => semVal (ctr c j) 0 : sProp 𝕄) = iprop(semVal (ctr c bar) 0 ∗ zeros c) := by
    rw [bigSep_univ_sum, show (Finset.univ : Finset Unit) = {()} from rfl, bigSep_singleton]; rfl
  rw [zeros_eq, barrier0_eq]
  unfold G
  iintro ⟨Hz, Hb, Hs, Hp, Hr, Ht⟩
  imod (show iprop((bigSep Finset.univ fun j : Ctr => semVal (ctr c j) 0) ∗ bigSep Finset.univ fun j : Ctr => roundState ER (plan A) (ctr c j) 0)
      ⊢ (|={Set.univ}=> bigSep Finset.univ fun j : Ctr => iprop(∃ κ : ℕ, cellInv ER (plan A) κ (ctr c j)) : sProp 𝕄) from by
        rw [← bigSep_sep']
        exact (bigSep_mono fun j _ => (Rounds.body_intro ER (plan A) (ctr c j)).trans inv_alloc).trans (bigSep_fupd _ _)) $$ [Hz Hb Hs] with HI
  · isplitr [Hs]
    · rw [hv]
      isplitl [Hb] <;> iassumption
    iexact Hs
  imodintro
  isplitl [HI]; · iexact HI
  isplitl [Hr]; · iexact Hr
  isplitl [Hp]; · iexact Hp
  iexact Ht

theorem shared {I : Type} [DecidableEq I] {S : Finset I} {R : sProp 𝕄} [BI.Persistent R] (Φ Ψ : I → sProp 𝕄)
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem share_out :
    (bigSep Finset.univ fun c : Dev nD => iprop((bigSep Finset.univ fun j : Ctr => iprop(∃ κ : ℕ, cellInv ER (plan A) κ (ctr c j)))
          ∗ (bigSep Finset.univ fun j : Ctr => reached ER (ctr c j) 0) ∗ (bigSep Finset.univ fun j : Ctr => pos c j) ∗ rights c) : sProp 𝕄)
      ⊢ bigSep Finset.univ (G' A) := by
  have hd : (bigSep Finset.univ fun c : Dev nD => iprop((bigSep Finset.univ fun j : Ctr => pos c j) ∗ mine c) : sProp 𝕄)
      = iprop((bigSep Finset.univ fun c : Dev nD => bigSep Finset.univ fun j : Ctr => pos c j) ∗ bigSep Finset.univ fun c : Dev nD => rights c) := by
    rw [bigSep_sep', dealt]
  rw [bigSep_sep', bigSep_sep', bigSep_sep', ← bigSep_univ_prod (fun x : Dev nD × Ctr => iprop(∃ κ : ℕ, cellInv ER (plan A) κ (ctr x.1 x.2))),
    ← bigSep_univ_prod (fun x : Dev nD × Ctr => (reached ER (ctr x.1 x.2) 0 : sProp 𝕄))]
  iintro ⟨HI, #HR, Hp, Ht⟩
  ihave HK := (BI.bigSep_exists_pi Finset.univ (fun (x : Dev nD × Ctr) (κ : ℕ) => (cellInv ER (plan A) κ (ctr x.1 x.2) : sProp 𝕄))) $$ HI
  icases HK with ⟨%K, #HI⟩
  iapply (shared (R := rules A K) (fun c : Dev nD => iprop((bigSep Finset.univ fun j : Ctr => pos c j) ∗ mine c)) (G' A) fun c _ => by
    unfold G'
    iintro ⟨#HR, Hp, Hm⟩
    iexists K
    isplitr; · iexact HR
    isplitl [Hp]; · iexact Hp
    iexact Hm)
  isplitr
  · unfold rules; isplitl; · iexact HI
    iexact HR
  · rw [hd]
    isplitl [Hp]; · iexact Hp
    iexact Ht

/-- All devices' rules, at once. -/
theorem glob : (bigSep Finset.univ fun c => iprop(Pipeline.ownSems0 (Ix := Unit) (Name := ℕ) (U := UU) (Lvl := ℕ) (Val := Elt F) (τ := τ) osem c ∗ unscopedSems0 c ∗ G A c) : sProp 𝕄)
    ⊢ |={Set.univ}=> bigSep Finset.univ (G' A) :=
  ((bigSep_mono fun c _ => lay A c).trans (bigSep_fupd _ _)).trans (BI.fupd_mono (share_out A))

/-! ## The credit -/

/-- The promise of every duty on a list, to the device whose counter it raises. -/
def promised (c : Dev nD) : List Due → sProp 𝕄
  | [] => iprop(emp)
  | d :: ds => iprop(promised c ds ∗ cred (tallyAt (ctr c d.2) () (unit d.2)))

theorem promises (c : Dev nD) : ∀ ds : List Due, (Pipeline.launchCred (fun d => owed d ds) c : sProp 𝕄) ⊢ promised c ds
  | [] => Entails.of_eq (Pipeline.launchCred_zero c)
  | d :: ds => by
    refine (Entails.of_eq (Pipeline.launchCred_add (fun e => owed e ds) (fun e => tallyAt (ctr (peer d.1 e) d.2) () (unit d.2)) c)).trans ?_
    exact BI.sep_mono (promises c ds)
      (Pipeline.launchCred_tallyAt (semOf d.2) (peer d.1) (peer d.1).symm (peer d.1).apply_symm_apply (peer d.1).symm_apply_apply () (unit d.2) c)

theorem promised_copies (c : Dev nD) (b : Block) (ds : List Due) :
    (promised c (copies b ++ ds) : sProp 𝕄) ⊢ iprop((each3 fun k => due c (.inr (b, k))) ∗ promised c ds) := by
  show iprop(((promised c ds ∗ due c (.inr (b, 2))) ∗ due c (.inr (b, 0))) ∗ due c (.inr (b, 1))) ⊢ _
  iintro ⟨⟨⟨H, H2⟩, H0⟩, H1⟩
  isplitr [H]
  · isplitl [H0]; · iexact H0
    isplitl [H1]; · iexact H1
    iexact H2
  iexact H

theorem promised_queue (c : Dev nD) (l : Fin 3) (ds : List Due) :
    (promised c (queue l ds) : sProp 𝕄) ⊢ iprop(ofLayer (fun b => each3 fun k => due c (.inr (b, k))) l ∗ promised c ds) := by
  unfold ofLayer
  iintro H
  ihave H := (promised_copies (F := F) c (l, 0) _) $$ H
  icases H with ⟨H0, H⟩
  ihave H := (promised_copies (F := F) c (l, 1) _) $$ H
  icases H with ⟨H1, H⟩
  ihave H := (promised_copies (F := F) c (l, 2) _) $$ H
  icases H with ⟨H2, H⟩
  ihave H := (promised_copies (F := F) c (l, 3) _) $$ H
  icases H with ⟨H3, H⟩
  isplitr [H]
  · isplitl [H0]; · iexact H0
    isplitl [H1]; · iexact H1
    isplitl [H2]; · iexact H2
    iexact H3
  iexact H

/-- Three greetings are one credit of three. -/
theorem three (g : GSem nD τ sig) :
    iprop(cred (tallyAt g () 1) ∗ cred (tallyAt g () 1) ∗ cred (tallyAt g () 1)) ⊢ (cred (tallyAt g () 3) : sProp 𝕄) := by
  rw [show (tallyAt g () 3 : CellTallies nD τ sig Unit) = tallyAt g () 1 + (tallyAt g () 1 + tallyAt g () 1) from by
    rw [tallyAt_add, tallyAt_add]]
  exact (sep_mono_right (cred_add _ _).2).trans (cred_add _ _).2

theorem promised_duties (c : Dev nD) :
    (promised c duties : sProp 𝕄) ⊢ iprop(cred (tallyAt (ctr c bar) () 3) ∗ bigSep Finset.univ fun b : Block => each3 fun k => due c (.inr (b, k))) := by
  show iprop(((promised c (queue 0 (queue 1 (queue 2 []))) ∗ cred (tallyAt (ctr c bar) () 1)) ∗ cred (tallyAt (ctr c bar) () 1)) ∗ cred (tallyAt (ctr c bar) () 1)) ⊢ _
  rw [overBlocks]
  iintro ⟨⟨⟨H, G2⟩, G1⟩, G0⟩
  isplitl [G0 G1 G2]
  · iapply (three (F := F) (ctr c bar))
    isplitl [G0]; · iexact G0
    isplitl [G1]; · iexact G1
    iexact G2
  ihave H := (promised_queue (F := F) c 0 _) $$ H
  icases H with ⟨H0, H⟩
  ihave H := (promised_queue (F := F) c 1 _) $$ H
  icases H with ⟨H1, H⟩
  ihave H := (promised_queue (F := F) c 2 _) $$ H
  icases H with ⟨H2, -⟩
  isplitl [H0]; · iexact H0
  isplitl [H1]; · iexact H1
  iexact H2

/-! ## What the body starts from -/

/-- All a device has at launch but the buffers. -/
def Begin (c : Dev nD) : sProp 𝕄 :=
  iprop(G' A c ∗ cred (tallyAt (ctr c bar) () 3) ∗ (bigSep Finset.univ fun b : Block => each3 fun k => due c (.inr (b, k))) ∗ levAts L lv)

theorem begin (c : Dev nD) : iprop(levAts L lv ∗ Pipeline.launchCred (fun d => owed d duties) c ∗ G' A c) ⊢ (Begin A c : sProp 𝕄) := by
  unfold Begin
  iintro ⟨HL, HC, HG⟩
  ihave HC := (promises (F := F) c duties) $$ HC
  ihave HC := (promised_duties (F := F) c) $$ HC
  icases HC with ⟨H3, HD⟩
  isplitl [HG]; · iexact HG
  isplitl [H3]; · iexact H3
  isplitl [HD]; · iexact HD
  iexact HL

end Cert.AllReduce
-- ==== Proof.Run.lean ====
/- The run: what the devices' arguments are, and what every execution leaves. -/
module

public import proofs.«01_k».proof.Proof.Ghost
public import Idealize.ShloMosaic.Lib.Pipeline.ValueKit

@[expose] public section

set_option maxRecDepth 16384

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The arguments -/

/-- The arguments a memory holds. -/
def args : Args F where
  x c := m ((c : Thread nD τ).loc main_arg0)
  wi c l := match l with
    | 0 => m ((c : Thread nD τ).loc main_arg1)
    | 1 => m ((c : Thread nD τ).loc main_arg3)
    | 2 => m ((c : Thread nD τ).loc main_arg5)
  wo c l := match l with
    | 0 => m ((c : Thread nD τ).loc main_arg2)
    | 1 => m ((c : Thread nD τ).loc main_arg4)
    | 2 => m ((c : Thread nD τ).loc main_arg6)

/-- The block of a window that takes the whole array is the array. -/
theorem block_emb {s : Shape} {e : EltTy} {cs : CoreSpace} (arr : Memref sig .tc .hbm s e) (o y : Bool)
    (st : Memref sig .tc (.core cs) ⟨s.rank, s.size⟩ e) (sem : DmaSem sig) (harr : arr.IsWhole) (hst : st.IsWhole)
    (t : Fin Pipeline.Grid.none.N) (j : s.Idx) :
    ((Pipeline.Window.whole arr o y st sem harr hst).blk t).view.emb j = arr.view.emb j := by
  show arr.view.emb (((Pipeline.Window.whole arr o y st sem harr hst).rect t).emb j) = _
  congr 1
  funext a
  apply Fin.ext
  show 0 * s.size a + 1 * (j a).val = (j a).val
  omega

def staged0 (c : Dev nD) (w : Fin cfg0.W) : (cfg0.win w).block.Idx → Elt F (cfg0.win w).elt :=
  match w with
  | ⟨0, _⟩ => (args m).x c
  | ⟨1, _⟩ => (args m).wi c 0
  | ⟨2, _⟩ => (args m).wo c 0
  | ⟨3, _⟩ => (args m).wi c 1
  | ⟨4, _⟩ => (args m).wo c 1
  | ⟨5, _⟩ => (args m).wi c 2
  | ⟨6, _⟩ => (args m).wo c 2
  | ⟨7, _⟩ => result (args m) c
  | ⟨_ + 8, h⟩ => absurd h (Nat.not_lt.2 (Nat.le_add_left _ _))

/-! ## What holds before and after the body -/

/-- The two buffers of the body's own. -/
def scratch (c : Dev nD) : sProp 𝕄 :=
  iprop((∃ f : Buf (Elt F) ((c : Thread nD τ).loc cc0_scratch0), ((c : Thread nD τ).loc cc0_scratch0) ↦{fullShare} f)
    ∗ ∃ f : Buf (Elt F) ((c : Thread nD τ).loc cc0_scratch1), ((c : Thread nD τ).loc cc0_scratch1) ↦{fullShare} f)

def Φ₀ (c : Dev nD) : sProp 𝕄 := iprop(Begin (args m) c ∗ scratch c)
def Φ₁ (c : Dev nD) : sProp 𝕄 := iprop(semVal (ctr c bar) 0 ∗ zeros c ∗ scratch c)

def dats (_ : Fin 1) (c : Dev nD) : Dat τ (Elt F) Unit ℕ UU ℕ cfg0 c where
  A w := m ((cfg0.win w).arr.view.loc (c : Thread nD τ))
  after w _ := staged0 m c w
  Φ t := match t with
    | ⟨0, _⟩ => Φ₀ m c
    | ⟨_ + 1, _⟩ => Φ₁ c
  q _ := fullShare
  owed t := match t with
    | ⟨0, _⟩ => owed c duties
    | ⟨_ + 1, _⟩ => 0

theorem before_eq (c : Dev nD) (w : Fin cfg0.W) (hf : (cfg0.win w).fetch t0_0 = true)
    (h : ∀ d, (dats m 0 c).fetched w t0_0 d = staged0 m c w) (d : (cfg0.win w).block.Idx → Elt F (cfg0.win w).elt) :
    (dats m 0 c).before w t0_0 d = staged0 m c w := by
  unfold Dat.before
  rw [if_pos hf, h d]

/-! The staging buffer of each argument holds the argument. -/

theorem before0 (c : Dev nD) (d) : (dats m 0 c).before 0 t0_0 d = (args m).x c :=
  before_eq m c 0 (fetch0_0 _) (fun d => funext fun j => congrArg (m ((c : Thread nD τ).loc main_arg0))
    (block_emb (Memref.whole main_arg0) false false (stage0_0 0) (sem0_0 0) (Memref.isWhole_whole _) (hstage0_0 0) t0_0 j)) d
theorem before1 (c : Dev nD) (d) : (dats m 0 c).before 1 t0_0 d = (args m).wi c 0 :=
  before_eq m c 1 (fetch0_1 _) (fun d => funext fun j => congrArg (m ((c : Thread nD τ).loc main_arg1))
    (block_emb (Memref.whole main_arg1) false false (stage0_1 0) (sem0_1 0) (Memref.isWhole_whole _) (hstage0_1 0) t0_0 j)) d
theorem before2 (c : Dev nD) (d) : (dats m 0 c).before 2 t0_0 d = (args m).wo c 0 :=
  before_eq m c 2 (fetch0_2 _) (fun d => funext fun j => congrArg (m ((c : Thread nD τ).loc main_arg2))
    (block_emb (Memref.whole main_arg2) false false (stage0_2 0) (sem0_2 0) (Memref.isWhole_whole _) (hstage0_2 0) t0_0 j)) d
theorem before3 (c : Dev nD) (d) : (dats m 0 c).before 3 t0_0 d = (args m).wi c 1 :=
  before_eq m c 3 (fetch0_3 _) (fun d => funext fun j => congrArg (m ((c : Thread nD τ).loc main_arg3))
    (block_emb (Memref.whole main_arg3) false false (stage0_3 0) (sem0_3 0) (Memref.isWhole_whole _) (hstage0_3 0) t0_0 j)) d
theorem before4 (c : Dev nD) (d) : (dats m 0 c).before 4 t0_0 d = (args m).wo c 1 :=
  before_eq m c 4 (fetch0_4 _) (fun d => funext fun j => congrArg (m ((c : Thread nD τ).loc main_arg4))
    (block_emb (Memref.whole main_arg4) false false (stage0_4 0) (sem0_4 0) (Memref.isWhole_whole _) (hstage0_4 0) t0_0 j)) d
theorem before5 (c : Dev nD) (d) : (dats m 0 c).before 5 t0_0 d = (args m).wi c 2 :=
  before_eq m c 5 (fetch0_5 _) (fun d => funext fun j => congrArg (m ((c : Thread nD τ).loc main_arg5))
    (block_emb (Memref.whole main_arg5) false false (stage0_5 0) (sem0_5 0) (Memref.isWhole_whole _) (hstage0_5 0) t0_0 j)) d
theorem before6 (c : Dev nD) (d) : (dats m 0 c).before 6 t0_0 d = (args m).wo c 2 :=
  before_eq m c 6 (fetch0_6 _) (fun d => funext fun j => congrArg (m ((c : Thread nD τ).loc main_arg6))
    (block_emb (Memref.whole main_arg6) false false (stage0_6 0) (sem0_6 0) (Memref.isWhole_whole _) (hstage0_6 0) t0_0 j)) d

/-! ## The body -/

/-- The program's start, from what the launch gives, -/
theorem start_of (K : Dev nD × Ctr → ℕ) (c : Dev nD) :
    iprop(owing c duties ∗ (bigSep Finset.univ fun j : Ctr => pos c j) ∗ mine c ∗ cred (tallyAt (ctr c bar) () 3)
        ∗ (bigSep Finset.univ fun b : Block => each3 fun k => due c (.inr (b, k))) ∗ scratch c
        ∗ owns (c : Thread nD τ) xM fullShare ((args m).x c) ∗ Weights (args m) c ∗ Out (args m) c 0)
      ⊢ (Start (args m) c : sProp 𝕄) := by
  have hh : (bigSep Finset.univ (Held c) : sProp 𝕄) = iprop((bigSep Finset.univ fun b : Block => hole c (stageOf b))
      ∗ (bigSep Finset.univ fun b : Block => each3 fun k => tok c (snd (b, k)) 0)
      ∗ bigSep Finset.univ fun b : Block => each3 fun k => tok (peer k c) (rcv (b, k)) 0) := by
    rw [← bigSep_sep', ← bigSep_sep']
    exact bigSep_congr fun b _ => by unfold Held; simp only [← over3]; rw [bigSep_sep']
  have hc : (bigSep Finset.univ (Coming c) : sProp 𝕄) = iprop((bigSep Finset.univ fun b : Block => each3 fun k => due c (.inr (b, k)))
      ∗ bigSep Finset.univ fun b : Block => each3 fun k => pos c (rcv (b, k))) := by
    rw [← bigSep_sep']
    exact bigSep_congr fun b _ => by unfold Coming; simp only [← over3]; rw [bigSep_sep']
  unfold Start scratch
  rw [hh, hc, mine_eq, overCtrs]
  iintro ⟨HO, ⟨Hpb, Hps, Hpr⟩, ⟨Htb, Hts, Htr⟩, H3, Hd, ⟨Hs, Hp⟩, Hx, HW, Ho⟩
  isplitl [HO]; · iexact HO
  isplitl [Htb]; · iexact Htb
  isplitl [H3]; · iexact H3
  isplitl [Hpb]; · iexact Hpb
  isplitl [Hp]; · iapply (place_parts c).1; iexact Hp
  isplitl [Hs Hts Htr]
  · isplitl [Hs]; · iapply (stage_parts c).1; iexact Hs
    isplitl [Hts]; · iexact Hts
    iexact Htr
  isplitl [Hps]; · iexact Hps
  isplitl [Hd Hpr]
  · isplitl [Hd]; · iexact Hd
    iexact Hpr
  isplitl [Hx]; · iexact Hx
  isplitl [HW]; · iexact HW
  iexact Ho

/-- its end, as the launch takes it back, -/
theorem end_of (c : Dev nD) :
    (Finish (args m) c : sProp 𝕄)
      ⊢ iprop(Φ₁ c ∗ owing c [] ∗ owns (c : Thread nD τ) xM fullShare ((args m).x c) ∗ Weights (args m) c
        ∗ owns (c : Thread nD τ) outM fullShare (result (args m) c)) := by
  unfold Finish Φ₁ Out scratch
  iintro ⟨HO, Hz, Hs, Hc, Hx, HW, ⟨%X, %hX, Ho⟩⟩
  ihave H := (leave (F := F) c) $$ [Hs Hc]
  · isplitl [Hs] <;> iassumption
  icases H with ⟨H0, H1, Hzs⟩
  isplitl [Hz H0 H1 Hzs]
  · isplitl [Hz]; · iexact Hz
    isplitl [Hzs]; · iexact Hzs
    isplitl [H0]; · iexact H0
    iexact H1
  isplitl [HO]; · iexact HO
  isplitl [Hx]; · iexact Hx
  isplitl [HW]; · iexact HW
  rw [← hX.eq_result]
  iexact Ho

theorem Filled.none (A : Args F) (c : Dev nD) (X : FVec F S64x512 .f32) : Filled A c 0 X := by
  intro ch h
  exact absurd h (Nat.not_lt_zero _)

/-- What the pipeline hands the body, -/
def Given (c : Dev nD) : sProp 𝕄 :=
  iprop(Φ₀ m c ∗ (dats m 0 c).owesAt () t0_0.castSucc
    ∗ (∃ d, owns (c : Thread nD τ) xM fullShare ((dats m 0 c).before 0 t0_0 d))
    ∗ (∃ d, owns (c : Thread nD τ) (winM 0) fullShare ((dats m 0 c).before 1 t0_0 d))
    ∗ (∃ d, owns (c : Thread nD τ) (woutM 0) fullShare ((dats m 0 c).before 2 t0_0 d))
    ∗ (∃ d, owns (c : Thread nD τ) (winM 1) fullShare ((dats m 0 c).before 3 t0_0 d))
    ∗ (∃ d, owns (c : Thread nD τ) (woutM 1) fullShare ((dats m 0 c).before 4 t0_0 d))
    ∗ (∃ d, owns (c : Thread nD τ) (winM 2) fullShare ((dats m 0 c).before 5 t0_0 d))
    ∗ (∃ d, owns (c : Thread nD τ) (woutM 2) fullShare ((dats m 0 c).before 6 t0_0 d))
    ∗ ∃ d, owns (c : Thread nD τ) outM fullShare ((dats m 0 c).before 7 t0_0 d))

/-- and what the body hands back. -/
def Taken (c : Dev nD) : sProp 𝕄 :=
  iprop(Φ₁ c ∗ (dats m 0 c).owesAt () t0_0.succ
    ∗ owns (c : Thread nD τ) xM fullShare ((args m).x c)
    ∗ owns (c : Thread nD τ) (winM 0) fullShare ((args m).wi c 0) ∗ owns (c : Thread nD τ) (woutM 0) fullShare ((args m).wo c 0)
    ∗ owns (c : Thread nD τ) (winM 1) fullShare ((args m).wi c 1) ∗ owns (c : Thread nD τ) (woutM 1) fullShare ((args m).wo c 1)
    ∗ owns (c : Thread nD τ) (winM 2) fullShare ((args m).wi c 2) ∗ owns (c : Thread nD τ) (woutM 2) fullShare ((args m).wo c 2)
    ∗ owns (c : Thread nD τ) outM fullShare (result (args m) c))

theorem taken_of (c : Dev nD) : (Finish (args m) c : sProp 𝕄) ⊢ Taken m c := by
  unfold Taken Dat.owesAt Pipeline.owesWithin
  iintro H
  ihave H := (end_of m c) $$ H
  unfold Weights owing
  icases H with ⟨H1, ⟨%W, HO⟩, Hx, ⟨⟨Hi0, Ho0⟩, ⟨Hi1, Ho1⟩, Hi2, Ho2⟩, Ho⟩
  isplitl [H1]; · iexact H1
  isplitl [HO]
  · iexists W
    isplitr; · ipureintro; exact fun _ _ => Or.inl trivial
    iexact HO
  isplitl [Hx]; · iexact Hx
  isplitl [Hi0]; · iexact Hi0
  isplitl [Ho0]; · iexact Ho0
  isplitl [Hi1]; · iexact Hi1
  isplitl [Ho1]; · iexact Ho1
  isplitl [Hi2]; · iexact Hi2
  isplitl [Ho2]; · iexact Ho2
  iexact Ho

theorem body_run (c : Dev nD) : Given m c ⊢ run c program fun _ => Taken m c := by
  unfold Given Φ₀ Begin G' Dat.owesAt Pipeline.owesWithin
  simp only [before0, before1, before2, before3, before4, before5, before6]
  iintro ⟨⟨⟨⟨%K, #HR, Hp, Hm⟩, H3, Hd, #HL⟩, Hs⟩, ⟨%W, -, HO⟩, ⟨%d0, Hx⟩, ⟨%d1, Hi0⟩, ⟨%d2, Ho0⟩, ⟨%d3, Hi1⟩, ⟨%d4, Ho1⟩, ⟨%d5, Hi2⟩, ⟨%d6, Ho2⟩, ⟨%d7, Ho⟩⟩
  iapply (run_program (args m) K c fun _ => Taken m c) $$ [Hp Hm H3 Hd Hs HO Hx Hi0 Ho0 Hi1 Ho1 Hi2 Ho2 Ho]
  · isplitr; · iexact HR
    isplitr; · iexact HL
    iapply (start_of m K c)
    isplitl [HO]; · unfold owing; iexists W; iexact HO
    isplitl [Hp]; · iexact Hp
    isplitl [Hm]; · iexact Hm
    isplitl [H3]; · iexact H3
    isplitl [Hd]; · iexact Hd
    isplitl [Hs]; · iexact Hs
    isplitl [Hx]; · iexact Hx
    isplitr [Ho]
    · unfold Weights
      isplitl [Hi0 Ho0]
      · isplitl [Hi0] <;> iassumption
      isplitl [Hi1 Ho1]
      · isplitl [Hi1] <;> iassumption
      isplitl [Hi2] <;> iassumption
    unfold Out
    iexists ((dats m 0 c).before 7 t0_0 d7)
    isplitr; · ipureintro; exact Filled.none _ _ _
    iexact Ho
  iintro H
  iapply (taken_of m c); iexact H

theorem body_obligation (c : Dev nD) : BodyObligation (dats (F := F) m 0 c) (defs₀ (F := F)) 𝒱₀ () Set.univ := fun t => by
  rw [fin_N0 t]
  rw [bigSep_W0, bigSep_W0]
  show Given m c ⊢ run c (cc0_body (F := F) xM (Memref.isWhole_whole _) (winM 0) (Memref.isWhole_whole _) (woutM 0) (Memref.isWhole_whole _)
      (winM 1) (Memref.isWhole_whole _) (woutM 1) (Memref.isWhole_whole _) (winM 2) (Memref.isWhole_whole _)
      (woutM 2) (Memref.isWhole_whole _) outM (Memref.isWhole_whole _) stageM (Memref.isWhole_whole _)
      commM (Memref.isWhole_whole _) cc0_scratch2 cc0_scratch3) fun _ => Taken m c
  rw [body_eq]
  exact body_run m c

end Cert.AllReduce
-- ==== Proof.Launch.lean ====
/- The launch: from any memory with all counters at zero, every execution ends, and what it leaves. -/
module

public import proofs.«01_k».proof.Proof.Run
public import Idealize.ShloMosaic.Lib.Quiescent
public import Idealize.ShloMosaic.Lib.Pipeline.CollectiveSegs

@[expose] public section

set_option maxRecDepth 16384

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

theorem stage_low (w : Fin 8) (s : Fin (spec0 w).nbuf) : ((spec0 w).sem s).val < 8 := by
  revert s; revert w; decide

theorem own_high (o : Slot ⊕ Slot) : ∃ q : DmaSem sig, osem o = .dma q ∧ 8 ≤ q.val := by
  rcases o with ⟨⟨l, ch⟩, k⟩ | ⟨⟨l, ch⟩, k⟩
  · exact ⟨_, rfl, (send_number l ch k).1⟩
  · exact ⟨_, rfl, le_trans (by decide) (recv_number l ch k).1⟩

theorem own_scoped (l : Fin 3) (ch : Fin 4) (k : Fin 3) :
    (SemLoc.dma (sendS l ch k) : SemLoc sig).isScoped .tc = true ∧ (SemLoc.dma (recvS l ch k) : SemLoc sig).isScoped .tc = true := by
  revert l ch k; decide +kernel

theorem ownSemFacts : Pipeline.OwnSemFacts cfg0.spec osem where
  isScoped o := by
    rcases o with ⟨⟨l, ch⟩, k⟩ | ⟨⟨l, ch⟩, k⟩
    · exact (own_scoped l ch k).1
    · exact (own_scoped l ch k).2
  inj := fun o o' h => Sum.inr_injective (semOf_injective h)
  disj := fun o w s h => by
    obtain ⟨q, hq, h8⟩ := own_high o
    have e : q = (spec0 w).sem s := SemLoc.dma.inj (hq.symm.trans h)
    have := stage_low w s
    rw [← e] at this
    omega

/-! ## The launch's conditions -/

theorem share_eq (c : Dev nD) (w : Fin cfg0.W) : (dats m 0 c).share w = fullShare := by unfold Dat.share; split <;> rfl

theorem L_of_ne (g : GSem nD τ sig) (h : g.1.2 ≠ .tc) : L g = ∅ := if_neg h

theorem waits (c : Dev nD) : (levAts L lv : sProp 𝕄) ⊢ Pipeline.cellsWaits cfgs (dats m) () 0 c :=
  Pipeline.cellsWaits_intro cfgs (dats m) () 0 c fun w s t => by
    have h0 : heightOf (ctrOf (.dma ((spec0 w).sem s))) = 0 := by
      show heightOf (if ((spec0 w).sem s).val < 8 then none else _) = 0
      rw [if_pos (stage_low w s)]; rfl
    have h : ∀ ds : List Due, (∀ d ∈ ds, 0 < height d.2) → (levAts L lv : sProp 𝕄) ⊢ MayWait (c : Thread nD τ) (.dma ((spec0 w).sem s)) () (owed c ds) :=
      fun ds hds => may_wait c _ ds fun d hd => by rw [h0]; exact hds d hd
    rcases t with ⟨_ | _, ht⟩
    · refine h duties fun d hd => ?_
      rcases List.mem_append.mp hd with hd | hd
      · simp only [greetings, List.mem_cons, List.not_mem_nil, or_false] at hd
        rcases hd with rfl | rfl | rfl <;> exact Nat.one_pos
      · exact lt_trans Nat.one_pos (duties_above d hd)
    · exact h [] fun d hd => absurd hd List.not_mem_nil

theorem start_intro (c : Dev nD) :
    iprop(Pipeline.unscopedRestP Pipeline.Prefetch.none cfg0.spec c (fun b => m ((c : Thread nD τ).loc b)) ∗ levAts L lv
        ∗ Pipeline.launchCred (fun d => owed d duties) c ∗ prngReg c (ρ c) ∗ G' (args m) c)
      ⊢ |={Set.univ}=> iprop(Begin (args m) c ∗ emp) := by
  iintro ⟨-, HL, HC, -, HG⟩
  imodintro
  isplitl
  · iapply (begin (args m) c)
    isplitl [HL]; · iexact HL
    isplitl [HC]; · iexact HC
    iexact HG
  · iempintro

theorem phi0_intro (c : Dev nD) :
    iprop(Begin (args m) c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨HB, -, Hr⟩
  isplitl [HB]; · iexact HB
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, barrier0_eq, zeros_eq]
  unfold Φ₁ scratch
  iintro ⟨Hb, Hz, Hr⟩
  isplitl [Hb]; · iexact Hb
  isplitl [Hz]; · iexact Hz
  iexact Hr

/-! ## The run -/

/-- What an execution leaves in a device's arrays. -/
def Left (r : PUnit × MemSt nD τ sig (Elt F)) : Prop :=
  ∀ c : Dev nD, ∀ w : Fin cfg0.W, r.2.mem ((cfg0.win w).arr.view.loc (c : Thread nD τ)) = (dats m 0 c).arrAt w cfg0.N

/-- Every execution ends, leaves the arrays as said, and all counters at zero. -/
theorem run_main : θ_run defs (onTc (τ := τ) (main (F := F))) ⟨m, fun _ => 0, ρ⟩ (fun r => Left m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := fun d => owed d duties) (howed₀ := fun _ => rfl) (howedN := fun _ => rfl)
    (L := L) (lv := lv) (hL := L_of_ne) (hwaits := waits m)
    (G := G (args m)) (G' := G' (args m)) (u₀ := u₀)
    (hu₀ := by
      unfold u₀
      iintro Hu
      ihave H := (ownU_pair _ _) $$ Hu
      icases H with ⟨HP, HX⟩
      imod (fund_all (args m)) $$ HX with HG
      imodintro
      isplitl [HP] <;> iassumption)
    (hglob := glob (args m))
    (hA := fun _ _ => rfl) (hpf := fun _ k => k.elim0)
    (X := Begin (args m)) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What is left -/

/-- The arguments are as they were, -/
theorem kept (c : Dev nD) (w : Fin cfg0.W) (h : (cfg0.win w).isOut = false) :
    (dats m 0 c).arrAt w cfg0.N = m ((cfg0.win w).arr.view.loc (c : Thread nD τ)) := (dats m 0 c).arrAt_in w h _

/-- and the result is in place. -/
theorem placed (c : Dev nD) : (dats m 0 c).arrAt 7 cfg0.N = result (args m) c :=
  (dats m 0 c).arrAt_eq_of_after_last 7 t0_0 (by decide +kernel) (result (args m) c) fun j => rfl

/-- A device's arguments unchanged. -/
def Same (r : PUnit × MemSt nD τ sig (Elt F)) (c : Dev nD) : Prop :=
  r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)

theorem Left.same {r : PUnit × MemSt nD τ sig (Elt F)} (h : Left m r) (c : Dev nD) : Same m r c :=
  ⟨(h c 0).trans (kept m c 0 rfl), (h c 1).trans (kept m c 1 rfl), (h c 2).trans (kept m c 2 rfl), (h c 3).trans (kept m c 3 rfl),
    (h c 4).trans (kept m c 4 rfl), (h c 5).trans (kept m c 5 rfl), (h c 6).trans (kept m c 6 rfl)⟩

theorem Left.result {r : PUnit × MemSt nD τ sig (Elt F)} (h : Left m r) (c : Dev nD) :
    r.2.mem ((c.tc : Thread nD τ).loc main_v1) = result (args m) c := (h c 7).trans (placed m c)

/-- Every execution ends with the arguments unchanged and all counters at zero. -/
theorem run_frame : θ_run defs (onTc (τ := τ) (main (F := F))) ⟨m, fun _ => 0, ρ⟩ (fun r => (∀ c : Dev nD, Same m r c) ∧ r.2.sem = fun _ => 0) :=
  (θ_run defs _ _).mono (fun _ h => ⟨fun c => h.1.same m c, h.2⟩) (run_main m ρ)

/-- Every execution ends with the result in place and the arguments unchanged. -/
theorem run_result : θ_run defs (onTc (τ := τ) (main (F := F))) ⟨m, fun _ => 0, ρ⟩
    (fun r => ∀ c : Dev nD, r.2.mem ((c.tc : Thread nD τ).loc main_v1) = result (args m) c ∧ Same m r c) :=
  (θ_run defs _ _).mono (fun _ h c => ⟨h.1.result m c, h.1.same m c⟩) (run_main m ρ)

end Cert.AllReduce
-- ==== Proof.Printed.lean ====
/- The two printed programs have one text: their body tables are equal, so the run of one is the run of the other. -/
module

public import proofs.«01_k».proof.Proof.Gen.Kernel
public import proofs.«01_k».proof.Proof.Gen.KernelIdeal

@[expose] public section

set_option maxRecDepth 16384

noncomputable section

namespace Cert.AllReduce

open Idealize.ShloMosaic

attribute [local instance] Cert.Kernel.Gen.facts Cert.KernelIdeal.Gen.facts

variable {F : FTy → Type} [FloatOps F]

theorem printed_body : @Cert.Kernel.cc0_body F _ _ = @Cert.KernelIdeal.cc0_body F _ _ := rfl

theorem printed_bodies : @Cert.Kernel.defs₀ F _ _ = @Cert.KernelIdeal.defs₀ F _ _ := by
  unfold Cert.Kernel.defs₀ Cert.KernelIdeal.defs₀
  refine congrArg Defs.onTc ?_
  funext l a
  match l, a with
  | 0, (t, s) =>
    refine (?_ : Cert.Kernel.cc0_body (F := F) _ _ _ _ _ _ _ _ _ _ _ _ _ _ _ _ _ _ _ _ _ _
      = Cert.KernelIdeal.cc0_body (F := F) _ _ _ _ _ _ _ _ _ _ _ _ _ _ _ _ _ _ _ _ _ _)
    rw [printed_body]

theorem printed_defs : @Cert.Kernel.defs F _ _ = @Cert.KernelIdeal.defs F _ _ := congrArg (Pipeline.defs _) printed_bodies

end Cert.AllReduce

end
-- ==== Proof.Mlp.lean ====
/- One layer of the perceptron at an entry, over the extended reals: both programs' layer is it, and the four devices' parts of a
   layer, each over its own quarter of the hidden width, add up to the whole layer. -/
module

public import proofs.«01_k».proof.Proof.Schedule
public import proofs.«01_k».proof.Proof.Gen.ReferenceIdeal
public import Idealize.ShloMosaic.Lib.Pipeline.ValueKit
public import Idealize.ShloMosaic.Lib.KernelVsHost
public import Idealize.ShloMosaic.Lib.IdealHost
public import Idealize.ShloMosaic.Lib.MatmulPlain
public import Idealize.ShloMosaic.Lib.Layout

@[expose] public section

set_option maxRecDepth 16384

noncomputable section

namespace Cert.AllReduce

open Idealize.ShloMosaic hiding ix2
open Idealize.ShloMosaic.ValueIdx
open scoped BigOperators

/-- A matrix over the extended reals. -/
abbrev Mat (M N : ℕ) : Type := FVec Ideal (⟨2, ![M, N]⟩ : Shape) .f32

/-- Entry `j` of a layer on the row `x`: the hidden row is `x`'s product with `wi`, negative entries replaced by zero. -/
def mlp {K H N : ℕ} (x : Fin K → EReal) (wi : Mat K H) (wo : Mat H N) (j : Fin N) : EReal :=
  ∑ k : Fin H, max (∑ q : Fin K, x q * wi (ix2 q k)) 0 * wo (ix2 k j)

/-- A product into a zero accumulator, at an entry. -/
theorem product_at {M K N : ℕ} (d : DotDims ⟨2, ![M, K]⟩ ⟨2, ![K, N]⟩ ⟨2, ![M, N]⟩) (hd : d = DotDims.plain M K N)
    (a : Mat M K) (b : Mat K N) (r : Fin M) (j : Fin N) :
    matmul d none a b (constant (⟨2, ![M, N]⟩ : Shape) .f32 0x00000000#32) (ix2 r j) = ∑ k : Fin K, a (ix2 r k) * b (ix2 k j) := by
  subst hd
  refine (Ideal.matmul_plain_apply none a b _ r j).trans ?_
  rw [show constant (F := Ideal) (⟨2, ![M, N]⟩ : Shape) .f32 0x00000000#32 (ix2 r j) = (0 : EReal) from Ideal.ofBits_zero_f32, zero_add]

/-- The reference's product, at an entry. -/
theorem hostProduct_at {M K N : ℕ} (d : DotDims ⟨2, ![M, K]⟩ ⟨2, ![K, N]⟩ ⟨2, ![M, N]⟩) (hd : d = DotDims.plain M K N)
    (a : Mat M K) (b : Mat K N) (r : Fin M) (j : Fin N) :
    Host.dotGeneral d none a b (ix2 r j) = ∑ k : Fin K, a (ix2 r k) * b (ix2 k j) := by
  rw [← matmul_zero_eq_dotGeneral]
  exact product_at d hd a b r j

section Kernel
open Cert.KernelIdeal Cert.KernelIdeal.Gen

/-- A device's layer on a chunk's rows. -/
theorem fwd_at (x : Mat 16 512) (wi : Mat 512 1024) (wo : Mat 1024 512) (r : Fin 16) (j : Fin 512) :
    fwd (F := Ideal) x wi wo (ix2 r j) = mlp (fun q => x (ix2 r q)) wi wo j := by
  unfold fwd mlp
  rw [shapeCast_self, shapeCast_self]
  refine (product_at dot_S16x1024_S1024x512_S16x512_1_0_0_1_n_n rfl _ _ _ _).trans ?_
  refine Finset.sum_congr rfl fun k _ => congrArg (· * wo (ix2 k j)) ?_
  exact congrArg₂ max (product_at dot_S16x512_S512x1024_S16x1024_1_0_0_1_n_n rfl _ _ _ _) Ideal.ofBits_zero_f32

end Kernel

section Reference
open Cert.ReferenceIdeal Cert.ReferenceIdeal.Gen

/-- The reference's layer. -/
def layerRef (x : Mat 64 512) (wi : Mat 512 4096) (wo : Mat 4096 512) : Mat 64 512 :=
  Host.dotGeneral dot_S64x4096_S4096x512_S64x512_1_0_0_1_n_n none
    (maximumf (Host.dotGeneral dot_S64x512_S512x4096_S64x4096_1_0_0_1_n_n none x wi)
      (broadcastInDim S64x4096 ![] bcast_S_S64x4096 (constant S_ .f32 0x00000000#32))) wo

theorem layerRef_at (x : Mat 64 512) (wi : Mat 512 4096) (wo : Mat 4096 512) (r : Fin 64) (j : Fin 512) :
    layerRef x wi wo (ix2 r j) = mlp (fun q => x (ix2 r q)) wi wo j := by
  unfold layerRef mlp
  refine (hostProduct_at dot_S64x4096_S4096x512_S64x512_1_0_0_1_n_n rfl _ _ _ _).trans ?_
  refine Finset.sum_congr rfl fun k _ => congrArg (· * wo (ix2 k j)) ?_
  exact congrArg₂ max (hostProduct_at dot_S64x512_S512x4096_S64x4096_1_0_0_1_n_n rfl _ _ _ _)
    ((broadcastInDim_scalar_apply _ _ _).trans Ideal.ofBits_zero_f32)

end Reference

/-! ## The hidden width in four quarters -/

/-- Device `c`'s columns of the first weights, and its rows of the second. -/
abbrev colsOf (c : Fin 4) (wi : Mat 512 4096) : Mat 512 1024 := Layout.block ⟨2, ![512, 1024]⟩ ⟨2, ![512, 4096]⟩ 1 4 c wi
abbrev rowsOf (c : Fin 4) (wo : Mat 4096 512) : Mat 1024 512 := Layout.block ⟨2, ![1024, 512]⟩ ⟨2, ![4096, 512]⟩ 0 4 c wo

/-- Where entry `k` of quarter `c` lies. -/
abbrev along (c : Fin 4) (k : Fin 1024) : Fin 4096 := finProdFinEquiv (m := 4) (n := 1024) (c, k)

theorem colsOf_at (c : Fin 4) (wi : Mat 512 4096) (q : Fin 512) (k : Fin 1024) : colsOf c wi (ix2 q k) = wi (ix2 q (along c k)) := by
  refine congrArg wi (funext fun a => Fin.ext ?_)
  rw [Layout.Tiles.idx_val]
  match a with
  | 0 => rfl
  | 1 => show c.val * 1024 + k.val = k.val + 1024 * c.val; omega

theorem rowsOf_at (c : Fin 4) (wo : Mat 4096 512) (k : Fin 1024) (j : Fin 512) : rowsOf c wo (ix2 k j) = wo (ix2 (along c k) j) := by
  refine congrArg wo (funext fun a => Fin.ext ?_)
  rw [Layout.Tiles.idx_val]
  match a with
  | 0 => show c.val * 1024 + k.val = k.val + 1024 * c.val; omega
  | 1 => rfl

theorem mlp_quarters (x : Fin 512 → EReal) (wi : Mat 512 4096) (wo : Mat 4096 512) (j : Fin 512) :
    ∑ c : Fin 4, mlp x (colsOf c wi) (rowsOf c wo) j = mlp x wi wo j := by
  unfold mlp
  rw [← Equiv.sum_comp (finProdFinEquiv (m := 4) (n := 1024)), Fintype.sum_prod_type]
  refine Finset.sum_congr rfl fun c _ => Finset.sum_congr rfl fun k _ => ?_
  rw [rowsOf_at]
  congr 2
  exact Finset.sum_congr rfl fun q _ => by rw [colsOf_at]

end Cert.AllReduce

end
-- ==== Proof.Value.lean ====
/- The kernel's result over the extended reals: on every device it is the reference's three layers. -/
module

public import proofs.«01_k».proof.Proof.Mlp
public import proofs.«01_k».proof.Proof.Access

@[expose] public section

set_option maxRecDepth 16384

noncomputable section

namespace Cert.AllReduce

open Cert.KernelIdeal Cert.KernelIdeal.Gen
open Idealize.ShloMosaic hiding ix2
open Idealize.ShloMosaic.ValueIdx
open scoped BigOperators

/-- A device's own partial product and the three that land are the four devices', in some order. -/
theorem total_at (p : Dev nD → Mat 16 512) (c : Dev nD) (i : S16x512.Idx) : total (F := Ideal) p c i = ∑ d : Fin 4, p d i := by
  have e : total (F := Ideal) p c i
      = p c i + p ((peer 0).symm c) i + p ((peer 1).symm c) i + p ((peer 2).symm c) i := rfl
  rw [e, peer_symm, peer_symm, peer_symm, Fin.sum_univ_four]
  match c with
  | 0 => show p 0 i + p 3 i + p 2 i + p 1 i = _; ac_rfl
  | 1 => show p 1 i + p 0 i + p 3 i + p 2 i = _; ac_rfl
  | 2 => show p 2 i + p 1 i + p 0 i + p 3 i = _; ac_rfl
  | 3 => show p 3 i + p 2 i + p 1 i + p 0 i = _; ac_rfl

/-- The row of the whole array that row `r` of a chunk is. -/
def rowOf (ch : Fin 4) (r : Fin 16) : Fin 64 := ⟨16 * ch.val + r.val, by omega⟩

theorem rows_at (ch : Fin 4) (x : Mat 64 512) (r : Fin 16) (j : Fin 512) : rows (F := Ideal) ch x (ix2 r j) = x (ix2 (rowOf ch r) j) := by
  refine (congrFun (shapeCast_self _ _) _).trans ?_
  refine congrArg x (funext fun a => Fin.ext ?_)
  match a with
  | 0 => show 16 * ch.val + 1 * r.val = 16 * ch.val + r.val; omega
  | 1 => show 0 + 1 * j.val = j.val; omega

/-- One layer and the exchange after it, on a chunk the devices agree on, is the chunk of the whole layer. -/
theorem layer_at (ch : Fin 4) (y : Dev nD → Mat 16 512) (x : Mat 64 512) (hy : ∀ d r j, y d (ix2 r j) = x (ix2 (rowOf ch r) j))
    (wi : Mat 512 4096) (wo : Mat 4096 512) (vi : Dev nD → Mat 512 1024) (vo : Dev nD → Mat 1024 512)
    (hi : ∀ d, vi d = colsOf d wi) (ho : ∀ d, vo d = rowsOf d wo) (c : Dev nD) (r : Fin 16) (j : Fin 512) :
    total (F := Ideal) (fun d => fwd (y d) (vi d) (vo d)) c (ix2 r j) = layerRef x wi wo (ix2 (rowOf ch r) j) := by
  rw [total_at, layerRef_at, ← mlp_quarters]
  refine Finset.sum_congr rfl fun d _ => ?_
  rw [fwd_at, hi, ho]
  congr 1
  exact funext fun q => hy d r q

/-- The reference's three layers. -/
def threeLayers (x : Mat 64 512) (wi : Fin 3 → Mat 512 4096) (wo : Fin 3 → Mat 4096 512) : Mat 64 512 :=
  layerRef (layerRef (layerRef x (wi 0) (wo 0)) (wi 1) (wo 1)) (wi 2) (wo 2)

theorem result_eq (A : Args Ideal) (x : Mat 64 512) (wi : Fin 3 → Mat 512 4096) (wo : Fin 3 → Mat 4096 512)
    (hx : ∀ d, A.x d = x) (hi : ∀ l d, A.wi d l = colsOf d (wi l)) (ho : ∀ l d, A.wo d l = rowsOf d (wo l)) (c : Dev nD) :
    result A c = threeLayers x wi wo := by
  funext i
  have h0 : (i 0).val < 64 := (i 0).isLt
  have e : i = ix2 (rowOf ⟨(i 0).val / 16, by omega⟩ ⟨(i 0).val % 16, by omega⟩) (i 1) := by
    funext a
    match a with
    | 0 => exact Fin.ext (show (i 0).val = 16 * ((i 0).val / 16) + (i 0).val % 16 by omega)
    | 1 => rfl
  have w : within i = ix2 (⟨(i 0).val % 16, by omega⟩ : Fin 16) (i 1) := by
    funext a
    match a with
    | 0 => rfl
    | 1 => rfl
  unfold result
  rw [w]
  refine Eq.trans ?_ (congrArg (threeLayers x wi wo) e.symm)
  refine layer_at _ _ _ (fun d r j => ?_) _ _ (fun d => A.wi d 2) (fun d => A.wo d 2) (hi 2) (ho 2) c _ _
  refine layer_at _ _ _ (fun d r j => ?_) _ _ (fun d => A.wi d 1) (fun d => A.wo d 1) (hi 1) (ho 1) d _ _
  refine layer_at _ _ _ (fun d r j => ?_) _ _ (fun d => A.wi d 0) (fun d => A.wo d 0) (hi 0) (ho 0) d _ _
  rw [hx]
  exact rows_at _ x r j

end Cert.AllReduce

end
-- ==== Proof.lean ====
/- The five claims. The kernel's run is `Proof.Launch`, once for any float values; what it leaves, at the ideal instance, is
   `Proof.Value`; the reference's run is the generated one. -/
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Launch
public import proofs.«01_k».proof.Proof.Printed
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.AllReduce

theorem frame_Kernel : Cert.quiescent_Kernel (hKernel := Cert.Kernel.Gen.facts) := by
  intro m ρ _
  rw [printed_defs]
  exact run_frame (F := Bits) m ρ

theorem frame_KernelIdeal : Cert.quiescent_KernelIdeal (hKernelIdeal := Cert.KernelIdeal.Gen.facts) := fun m ρ _ => run_frame (F := Ideal) m ρ

theorem frame_ReferenceIdeal : Cert.quiescent_ReferenceIdeal (hReferenceIdeal := Cert.ReferenceIdeal.Gen.facts) := fun m ρ _ =>
  (θ_run _ _ _).mono (fun r h => ⟨fun c => (h c).2, sem_eq_zero_of_no_sems rfl r.2⟩) (Cert.ReferenceIdeal.Value.run (F := Ideal) m ρ)

theorem algebraic : Cert.algebraic_KernelIdeal_ReferenceIdeal (hKernelIdeal := Cert.KernelIdeal.Gen.facts)
    (hReferenceIdeal := Cert.ReferenceIdeal.Gen.facts) := by
  intro m ρ m' ρ' _ h
  let v (b : Ref Cert.ReferenceIdeal.sig .tc) := m' (((0 : Dev Cert.ReferenceIdeal.nD).tc : Thread Cert.ReferenceIdeal.nD Cert.ReferenceIdeal.τ).loc b)
  refine ⟨threeLayers (v Cert.ReferenceIdeal.main_arg0)
    (fun l => match l with
      | 0 => v Cert.ReferenceIdeal.main_arg1
      | 1 => v Cert.ReferenceIdeal.main_arg3
      | 2 => v Cert.ReferenceIdeal.main_arg5)
    (fun l => match l with
      | 0 => v Cert.ReferenceIdeal.main_arg2
      | 1 => v Cert.ReferenceIdeal.main_arg4
      | 2 => v Cert.ReferenceIdeal.main_arg6), ?_, ?_⟩
  · refine (θ_run _ _ _).mono (fun r hr c => ⟨(hr c).1.trans ?_, (hr c).2⟩) (run_result (F := Ideal) m ρ)
    refine result_eq (args m) _ _ _ (fun d => (h d).1) (fun l d => ?_) (fun l d => ?_) c
    · match l with
      | 0 => exact (h d).2.1
      | 1 => exact (h d).2.2.2.1
      | 2 => exact (h d).2.2.2.2.2.1
    · match l with
      | 0 => exact (h d).2.2.1
      | 1 => exact (h d).2.2.2.2.1
      | 2 => exact (h d).2.2.2.2.2.2
  · exact (θ_run _ _ _).mono (fun r hr => hr 0) (Cert.ReferenceIdeal.Value.run (F := Ideal) m' ρ')

theorem claim : Cert.Claim := ⟨Cert.Kernel.Gen.facts, Cert.KernelIdeal.Gen.facts, Cert.ReferenceIdeal.Gen.facts,
  frame_Kernel, frame_KernelIdeal, frame_ReferenceIdeal, trivial, algebraic⟩

end Cert.Proof

end
